-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![1024, 32768]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![8192, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x4096 : Shape := ⟨2, ![1024, 4096]⟩
abbrev S4096x1024 : Shape := ⟨2, ![4096, 1024]⟩
abbrev S8x1024x1024 : Shape := ⟨3, ![8, 1024, 1024]⟩
abbrev S2x1024x1024 : Shape := ⟨3, ![2, 1024, 1024]⟩
abbrev S7 : Shape := ⟨1, ![7]⟩
abbrev S3 : Shape := ⟨1, ![3]⟩
abbrev S_ : Shape := ⟨0, ![]⟩
abbrev S1x1024x1024 : Shape := ⟨3, ![1, 1024, 1024]⟩
abbrev S1 : Shape := ⟨1, ![1]⟩
abbrev S128x1024 : Shape := ⟨2, ![128, 1024]⟩
abbrev S128x4096 : Shape := ⟨2, ![128, 4096]⟩
abbrev S1x128x1024 : Shape := ⟨3, ![1, 128, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .bf16⟩
  | .hbm, ⟨1, _⟩ => ⟨S1024x4096, .bf16⟩
  | .hbm, ⟨2, _⟩ => ⟨S4096x1024, .bf16⟩
  | .hbm, ⟨3, _⟩ => ⟨S1024x1024, .f32⟩
  | .local _ .vmem, ⟨0, _⟩ => ⟨S1024x1024, .bf16⟩
  | .local _ .vmem, ⟨1, _⟩ => ⟨S1024x4096, .bf16⟩
  | .local _ .vmem, ⟨2, _⟩ => ⟨S4096x1024, .bf16⟩
  | .local _ .vmem, ⟨3, _⟩ => ⟨S1024x1024, .f32⟩
  | .local _ .vmem, ⟨4, _⟩ => ⟨S8x1024x1024, .bf16⟩
  | .local _ .vmem, ⟨5, _⟩ => ⟨S2x1024x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => true
  | ⟨1, _⟩ => true
  | ⟨2, _⟩ => true
  | ⟨3, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 4 32 bufScoped semScoped dmaSemScoped tileCredit tileCredit_eq_zero tileCredit_pos).withBarriers [(0, 3)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 3

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_6 : BitVec 32 := 1#32
  let v10 : BitVec 32 := Scalar.muli v6 c1_i32_6
  let v11 : BitVec 32 := Scalar.addi c0_i32_7 v10
  v11.toNat
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_16 : BitVec 32 := 1#32
  let v17 : BitVec 32 := Scalar.muli v6 c1_i32_16
  let v18 : BitVec 32 := Scalar.addi c0_i32_17 v17
  v18.toNat
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_45 : BitVec 32 := 1#32
  let v41 : BitVec 32 := Scalar.muli v6 c1_i32_45
  let v42 : BitVec 32 := Scalar.addi c0_i32_46 v41
  v42.toNat
def k0_dev5 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_73 : BitVec 32 := 1#32
  let v65 : BitVec 32 := Scalar.muli v6 c1_i32_73
  let v66 : BitVec 32 := Scalar.addi c0_i32_74 v65
  v66.toNat
def k0_dev6 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_101 : BitVec 32 := 1#32
  let v89 : BitVec 32 := Scalar.muli v6 c1_i32_101
  let v90 : BitVec 32 := Scalar.addi c0_i32_102 v89
  v90.toNat
def k0_dev7 (d0 : Dev nD) : Nat :=
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_129 : BitVec 32 := 1#32
  let v113 : BitVec 32 := Scalar.muli v6 c1_i32_129
  let v114 : BitVec 32 := Scalar.addi c0_i32_130 v113
  v114.toNat
def k0_dev8 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_157 : BitVec 32 := 1#32
  let v137 : BitVec 32 := Scalar.muli v6 c1_i32_157
  let v138 : BitVec 32 := Scalar.addi c0_i32_158 v137
  v138.toNat
def k0_dev9 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_186 : BitVec 32 := 1#32
  let v161 : BitVec 32 := Scalar.muli v6 c1_i32_186
  let v162 : BitVec 32 := Scalar.addi c0_i32_187 v161
  v162.toNat
@[reducible] def k0_t1_loop : Scf.Loop 32 :=
  let c0_i32_212 : BitVec 32 := 0#32
  let c8_i32_213 : BitVec 32 := 8#32
  let v185 : BitVec 32 := Scalar.addi c0_i32_212 c8_i32_213
  let c1_i32_214 : BitVec 32 := 1#32
  ⟨c0_i32_212, v185, c1_i32_214⟩
def k0_off1 (k0_t1 : Fin k0_t1_loop.trips) : Fin 2 → Nat :=
  let c0_i32_212 : BitVec 32 := 0#32
  let c1_i32_214 : BitVec 32 := 1#32
  let arg11 : BitVec 32 := Scf.iv c0_i32_212 c1_i32_214 k0_t1
  let c128_i32 : BitVec 32 := 128#32
  let v463 : BitVec 32 := Scalar.muli arg11 c128_i32
  let v466 : Index := Scalar.indexCast v463
  let c0_564 : Index := 0#32
  ![v466.toNat, 0]
def k0_off2 (k0_t1 : Fin k0_t1_loop.trips) : Fin 3 → Nat :=
  let c0_i32_211 : BitVec 32 := 0#32
  let c0_i32_212 : BitVec 32 := 0#32
  let c1_i32_214 : BitVec 32 := 1#32
  let arg11 : BitVec 32 := Scf.iv c0_i32_212 c1_i32_214 k0_t1
  let c128_i32_570 : BitVec 32 := 128#32
  let v478 : BitVec 32 := Scalar.muli arg11 c128_i32_570
  let v481 : Index := Scalar.indexCast v478
  let c0_i32_572 : BitVec 32 := 0#32
  ![0, v481.toNat, 0]
@[reducible] def k0_t2_loop : Scf.Loop 32 :=
  let c0_i32_217 : BitVec 32 := 0#32
  let c8_i32_218 : BitVec 32 := 8#32
  let v186 : BitVec 32 := Scalar.addi c0_i32_217 c8_i32_218
  let c1_i32_219 : BitVec 32 := 1#32
  ⟨c0_i32_217, v186, c1_i32_219⟩
def k0_off3 (k0_t2 : Fin k0_t2_loop.trips) : Fin 2 → Nat :=
  let c0_i32_217 : BitVec 32 := 0#32
  let c1_i32_219 : BitVec 32 := 1#32
  let arg11 : BitVec 32 := Scf.iv c0_i32_217 c1_i32_219 k0_t2
  let c128_i32 : BitVec 32 := 128#32
  let v463 : BitVec 32 := Scalar.muli arg11 c128_i32
  let v466 : Index := Scalar.indexCast v463
  let c0_564 : Index := 0#32
  ![v466.toNat, 0]
def k0_off4 (k0_t2 : Fin k0_t2_loop.trips) : Fin 3 → Nat :=
  let c1_i32_216 : BitVec 32 := 1#32
  let c0_i32_217 : BitVec 32 := 0#32
  let c1_i32_219 : BitVec 32 := 1#32
  let arg11 : BitVec 32 := Scf.iv c0_i32_217 c1_i32_219 k0_t2
  let c128_i32_570 : BitVec 32 := 128#32
  let v478 : BitVec 32 := Scalar.muli arg11 c128_i32_570
  let v481 : Index := Scalar.indexCast v478
  let c0_i32_572 : BitVec 32 := 0#32
  ![1, v481.toNat, 0]
@[reducible] def k0_t3_loop : Scf.Loop 32 :=
  let c0_i32_222 : BitVec 32 := 0#32
  let c8_i32_223 : BitVec 32 := 8#32
  let v187 : BitVec 32 := Scalar.addi c0_i32_222 c8_i32_223
  let c1_i32_224 : BitVec 32 := 1#32
  ⟨c0_i32_222, v187, c1_i32_224⟩
def k0_off5 (k0_t3 : Fin k0_t3_loop.trips) : Fin 2 → Nat :=
  let c0_i32_222 : BitVec 32 := 0#32
  let c1_i32_224 : BitVec 32 := 1#32
  let arg11 : BitVec 32 := Scf.iv c0_i32_222 c1_i32_224 k0_t3
  let c128_i32 : BitVec 32 := 128#32
  let v463 : BitVec 32 := Scalar.muli arg11 c128_i32
  let v466 : Index := Scalar.indexCast v463
  let c0_564 : Index := 0#32
  ![v466.toNat, 0]
def k0_off6 (k0_t3 : Fin k0_t3_loop.trips) : Fin 3 → Nat :=
  let c2_i32_221 : BitVec 32 := 2#32
  let c0_i32_222 : BitVec 32 := 0#32
  let c1_i32_224 : BitVec 32 := 1#32
  let arg11 : BitVec 32 := Scf.iv c0_i32_222 c1_i32_224 k0_t3
  let c128_i32_570 : BitVec 32 := 128#32
  let v478 : BitVec 32 := Scalar.muli arg11 c128_i32_570
  let v481 : Index := Scalar.indexCast v478
  let c0_i32_572 : BitVec 32 := 0#32
  ![2, v481.toNat, 0]
@[reducible] def k0_t4_loop : Scf.Loop 32 :=
  let c0_i32_227 : BitVec 32 := 0#32
  let c8_i32_228 : BitVec 32 := 8#32
  let v188 : BitVec 32 := Scalar.addi c0_i32_227 c8_i32_228
  let c1_i32_229 : BitVec 32 := 1#32
  ⟨c0_i32_227, v188, c1_i32_229⟩
def k0_off7 (k0_t4 : Fin k0_t4_loop.trips) : Fin 2 → Nat :=
  let c0_i32_227 : BitVec 32 := 0#32
  let c1_i32_229 : BitVec 32 := 1#32
  let arg11 : BitVec 32 := Scf.iv c0_i32_227 c1_i32_229 k0_t4
  let c128_i32 : BitVec 32 := 128#32
  let v463 : BitVec 32 := Scalar.muli arg11 c128_i32
  let v466 : Index := Scalar.indexCast v463
  let c0_564 : Index := 0#32
  ![v466.toNat, 0]
def k0_off8 (k0_t4 : Fin k0_t4_loop.trips) : Fin 3 → Nat :=
  let c3_i32_226 : BitVec 32 := 3#32
  let c0_i32_227 : BitVec 32 := 0#32
  let c1_i32_229 : BitVec 32 := 1#32
  let arg11 : BitVec 32 := Scf.iv c0_i32_227 c1_i32_229 k0_t4
  let c128_i32_570 : BitVec 32 := 128#32
  let v478 : BitVec 32 := Scalar.muli arg11 c128_i32_570
  let v481 : Index := Scalar.indexCast v478
  let c0_i32_572 : BitVec 32 := 0#32
  ![3, v481.toNat, 0]
@[reducible] def k0_t5_loop : Scf.Loop 32 :=
  let c0_i32_232 : BitVec 32 := 0#32
  let c8_i32_233 : BitVec 32 := 8#32
  let v189 : BitVec 32 := Scalar.addi c0_i32_232 c8_i32_233
  let c1_i32_234 : BitVec 32 := 1#32
  ⟨c0_i32_232, v189, c1_i32_234⟩
def k0_off9 (k0_t5 : Fin k0_t5_loop.trips) : Fin 2 → Nat :=
  let c0_i32_232 : BitVec 32 := 0#32
  let c1_i32_234 : BitVec 32 := 1#32
  let arg11 : BitVec 32 := Scf.iv c0_i32_232 c1_i32_234 k0_t5
  let c128_i32 : BitVec 32 := 128#32
  let v463 : BitVec 32 := Scalar.muli arg11 c128_i32
  let v466 : Index := Scalar.indexCast v463
  let c0_564 : Index := 0#32
  ![v466.toNat, 0]
def k0_off10 (k0_t5 : Fin k0_t5_loop.trips) : Fin 3 → Nat :=
  let c4_i32_231 : BitVec 32 := 4#32
  let c0_i32_232 : BitVec 32 := 0#32
  let c1_i32_234 : BitVec 32 := 1#32
  let arg11 : BitVec 32 := Scf.iv c0_i32_232 c1_i32_234 k0_t5
  let c128_i32_570 : BitVec 32 := 128#32
  let v478 : BitVec 32 := Scalar.muli arg11 c128_i32_570
  let v481 : Index := Scalar.indexCast v478
  let c0_i32_572 : BitVec 32 := 0#32
  ![4, v481.toNat, 0]
@[reducible] def k0_t6_loop : Scf.Loop 32 :=
  let c0_i32_237 : BitVec 32 := 0#32
  let c8_i32_238 : BitVec 32 := 8#32
  let v190 : BitVec 32 := Scalar.addi c0_i32_237 c8_i32_238
  let c1_i32_239 : BitVec 32 := 1#32
  ⟨c0_i32_237, v190, c1_i32_239⟩
def k0_off11 (k0_t6 : Fin k0_t6_loop.trips) : Fin 2 → Nat :=
  let c0_i32_237 : BitVec 32 := 0#32
  let c1_i32_239 : BitVec 32 := 1#32
  let arg11 : BitVec 32 := Scf.iv c0_i32_237 c1_i32_239 k0_t6
  let c128_i32 : BitVec 32 := 128#32
  let v463 : BitVec 32 := Scalar.muli arg11 c128_i32
  let v466 : Index := Scalar.indexCast v463
  let c0_564 : Index := 0#32
  ![v466.toNat, 0]
def k0_off12 (k0_t6 : Fin k0_t6_loop.trips) : Fin 3 → Nat :=
  let c5_i32_236 : BitVec 32 := 5#32
  let c0_i32_237 : BitVec 32 := 0#32
  let c1_i32_239 : BitVec 32 := 1#32
  let arg11 : BitVec 32 := Scf.iv c0_i32_237 c1_i32_239 k0_t6
  let c128_i32_570 : BitVec 32 := 128#32
  let v478 : BitVec 32 := Scalar.muli arg11 c128_i32_570
  let v481 : Index := Scalar.indexCast v478
  let c0_i32_572 : BitVec 32 := 0#32
  ![5, v481.toNat, 0]
@[reducible] def k0_t7_loop : Scf.Loop 32 :=
  let c0_i32_242 : BitVec 32 := 0#32
  let c8_i32_243 : BitVec 32 := 8#32
  let v191 : BitVec 32 := Scalar.addi c0_i32_242 c8_i32_243
  let c1_i32_244 : BitVec 32 := 1#32
  ⟨c0_i32_242, v191, c1_i32_244⟩
def k0_off13 (k0_t7 : Fin k0_t7_loop.trips) : Fin 2 → Nat :=
  let c0_i32_242 : BitVec 32 := 0#32
  let c1_i32_244 : BitVec 32 := 1#32
  let arg11 : BitVec 32 := Scf.iv c0_i32_242 c1_i32_244 k0_t7
  let c128_i32 : BitVec 32 := 128#32
  let v463 : BitVec 32 := Scalar.muli arg11 c128_i32
  let v466 : Index := Scalar.indexCast v463
  let c0_564 : Index := 0#32
  ![v466.toNat, 0]
def k0_off14 (k0_t7 : Fin k0_t7_loop.trips) : Fin 3 → Nat :=
  let c6_i32_241 : BitVec 32 := 6#32
  let c0_i32_242 : BitVec 32 := 0#32
  let c1_i32_244 : BitVec 32 := 1#32
  let arg11 : BitVec 32 := Scf.iv c0_i32_242 c1_i32_244 k0_t7
  let c128_i32_570 : BitVec 32 := 128#32
  let v478 : BitVec 32 := Scalar.muli arg11 c128_i32_570
  let v481 : Index := Scalar.indexCast v478
  let c0_i32_572 : BitVec 32 := 0#32
  ![6, v481.toNat, 0]
@[reducible] def k0_t8_loop : Scf.Loop 32 :=
  let c0_i32_247 : BitVec 32 := 0#32
  let c8_i32_248 : BitVec 32 := 8#32
  let v192 : BitVec 32 := Scalar.addi c0_i32_247 c8_i32_248
  let c1_i32_249 : BitVec 32 := 1#32
  ⟨c0_i32_247, v192, c1_i32_249⟩
def k0_off15 (k0_t8 : Fin k0_t8_loop.trips) : Fin 2 → Nat :=
  let c0_i32_247 : BitVec 32 := 0#32
  let c1_i32_249 : BitVec 32 := 1#32
  let arg11 : BitVec 32 := Scf.iv c0_i32_247 c1_i32_249 k0_t8
  let c128_i32 : BitVec 32 := 128#32
  let v463 : BitVec 32 := Scalar.muli arg11 c128_i32
  let v466 : Index := Scalar.indexCast v463
  let c0_564 : Index := 0#32
  ![v466.toNat, 0]
def k0_off16 (k0_t8 : Fin k0_t8_loop.trips) : Fin 3 → Nat :=
  let c7_i32_246 : BitVec 32 := 7#32
  let c0_i32_247 : BitVec 32 := 0#32
  let c1_i32_249 : BitVec 32 := 1#32
  let arg11 : BitVec 32 := Scf.iv c0_i32_247 c1_i32_249 k0_t8
  let c128_i32_570 : BitVec 32 := 128#32
  let v478 : BitVec 32 := Scalar.muli arg11 c128_i32_570
  let v481 : Index := Scalar.indexCast v478
  let c0_i32_572 : BitVec 32 := 0#32
  ![7, v481.toNat, 0]
def k0_dev10 (d0 : Dev nD) : Nat :=
  let c0_i32_256 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_255 : BitVec 32 := 1#32
  let v193 : BitVec 32 := Scalar.muli v6 c1_i32_255
  let v194 : BitVec 32 := Scalar.addi c0_i32_256 v193
  v194.toNat
def k0_dev11 (d0 : Dev nD) : Nat :=
  let c0_i32_291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_290 : BitVec 32 := 1#32
  let v227 : BitVec 32 := Scalar.muli v4 c1_i32_290
  let v228 : BitVec 32 := Scalar.addi c0_i32_291 v227
  v228.toNat
def k0_dev12 (d0 : Dev nD) : Nat :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_296 : BitVec 32 := 1#32
  let v229 : BitVec 32 := Scalar.muli v6 c1_i32_296
  let v230 : BitVec 32 := Scalar.addi c0_i32_297 v229
  v230.toNat
def k0_dev13 (d0 : Dev nD) : Nat :=
  let c0_i32_331 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_330 : BitVec 32 := 1#32
  let v263 : BitVec 32 := Scalar.muli v4 c1_i32_330
  let v264 : BitVec 32 := Scalar.addi c0_i32_331 v263
  v264.toNat
def k0_dev14 (d0 : Dev nD) : Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_339 : BitVec 32 := 1#32
  let v267 : BitVec 32 := Scalar.muli v6 c1_i32_339
  let v268 : BitVec 32 := Scalar.addi c0_i32_340 v267
  v268.toNat
def k0_dev15 (d0 : Dev nD) : Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_374 : BitVec 32 := 1#32
  let v301 : BitVec 32 := Scalar.muli v4 c1_i32_374
  let v302 : BitVec 32 := Scalar.addi c0_i32_375 v301
  v302.toNat
def k0_dev16 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_383 : BitVec 32 := 1#32
  let v305 : BitVec 32 := Scalar.muli v6 c1_i32_383
  let v306 : BitVec 32 := Scalar.addi c0_i32_384 v305
  v306.toNat
def k0_dev17 (d0 : Dev nD) : Nat :=
  let c0_i32_419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_418 : BitVec 32 := 1#32
  let v339 : BitVec 32 := Scalar.muli v4 c1_i32_418
  let v340 : BitVec 32 := Scalar.addi c0_i32_419 v339
  v340.toNat
def k0_dev18 (d0 : Dev nD) : Nat :=
  let c0_i32_428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_427 : BitVec 32 := 1#32
  let v343 : BitVec 32 := Scalar.muli v6 c1_i32_427
  let v344 : BitVec 32 := Scalar.addi c0_i32_428 v343
  v344.toNat
def k0_dev19 (d0 : Dev nD) : Nat :=
  let c0_i32_463 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_462 : BitVec 32 := 1#32
  let v377 : BitVec 32 := Scalar.muli v4 c1_i32_462
  let v378 : BitVec 32 := Scalar.addi c0_i32_463 v377
  v378.toNat
def k0_dev20 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_471 : BitVec 32 := 1#32
  let v381 : BitVec 32 := Scalar.muli v6 c1_i32_471
  let v382 : BitVec 32 := Scalar.addi c0_i32_472 v381
  v382.toNat
def k0_dev21 (d0 : Dev nD) : Nat :=
  let c0_i32_507 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_506 : BitVec 32 := 1#32
  let v415 : BitVec 32 := Scalar.muli v4 c1_i32_506
  let v416 : BitVec 32 := Scalar.addi c0_i32_507 v415
  v416.toNat
def k0_dev22 (d0 : Dev nD) : Nat :=
  let c0_i32_516 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_515 : BitVec 32 := 1#32
  let v419 : BitVec 32 := Scalar.muli v6 c1_i32_515
  let v420 : BitVec 32 := Scalar.addi c0_i32_516 v419
  v420.toNat
def k0_dev23 (d0 : Dev nD) : Nat :=
  let c0_i32_554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_553 : BitVec 32 := 1#32
  let v455 : BitVec 32 := Scalar.muli v4 c1_i32_553
  let v456 : BitVec 32 := Scalar.addi c0_i32_554 v455
  v456.toNat
def k0_dev24 (d0 : Dev nD) : Nat :=
  let c0_i32_558 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_557 : BitVec 32 := 1#32
  let v459 : BitVec 32 := Scalar.muli v6 c1_i32_557
  let v460 : BitVec 32 := Scalar.addi c0_i32_558 v459
  v460.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8192x1024 : Shape := ⟨2, ![8192, 1024]⟩
abbrev S1024x32768 : Shape := ⟨2, ![1024, 32768]⟩
abbrev S32768x1024 : Shape := ⟨2, ![32768, 1024]⟩
abbrev S8192x32768 : Shape := ⟨2, ![8192, 32768]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x32768, .bf16⟩
  | .hbm, ⟨2, _⟩ => ⟨S32768x1024, .bf16⟩
  | .hbm, ⟨3, _⟩ => ⟨S8192x1024, .f32⟩
  | .hbm, ⟨4, _⟩ => ⟨S1024x32768, .f32⟩
  | .hbm, ⟨5, _⟩ => ⟨S8192x32768, .f32⟩
  | .hbm, ⟨6, _⟩ => ⟨S8192x32768, .f32⟩
  | .hbm, ⟨7, _⟩ => ⟨S8192x32768, .f32⟩
  | .hbm, ⟨8, _⟩ => ⟨S_, .f32⟩
  | .hbm, ⟨9, _⟩ => ⟨S8192x32768, .f32⟩
  | .hbm, ⟨10, _⟩ => ⟨S8192x32768, .f32⟩
  | .hbm, ⟨11, _⟩ => ⟨S8192x32768, .f32⟩
  | .hbm, ⟨12, _⟩ => ⟨S32768x1024, .f32⟩
  | .hbm, ⟨13, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Slots.lean ====
/-
The two scratch buffers of the ring kernel, seen slot by slot.

The gather buffer holds eight `1024 × 1024` slots and the reduction buffer two. Every remote copy, load and store of the kernel
stays within one slot, so ownership is kept per slot: a slot assertion owns exactly the slot's elements and says what the slot's
two-dimensional view reads off them.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Exec
public import Idealize.ShloMosaic.Lib.Ring
public import Idealize.ShloMosaic.Lib.Pipeline.Value

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Indices -/

/-- The index `(i, j)` of a `1024 × 1024` block. -/
def ij (i j : ℕ) (hi : i < 1024) (hj : j < 1024) : S1024x1024.Idx
  | ⟨0, _⟩ => ⟨i, hi⟩
  | ⟨1, _⟩ => ⟨j, hj⟩
/-- The index `(i, j)` of a `128 × 1024` tile. -/
def tij (i j : ℕ) (hi : i < 128) (hj : j < 1024) : S128x1024.Idx
  | ⟨0, _⟩ => ⟨i, hi⟩
  | ⟨1, _⟩ => ⟨j, hj⟩
/-- The index `(s, i, j)` of the gather buffer. -/
def gij (s i j : ℕ) (hs : s < 8) (hi : i < 1024) (hj : j < 1024) : S8x1024x1024.Idx
  | ⟨0, _⟩ => ⟨s, hs⟩
  | ⟨1, _⟩ => ⟨i, hi⟩
  | ⟨2, _⟩ => ⟨j, hj⟩

/-! ## The memrefs -/

abbrev xM : Memref sig .tc .vmem S1024x1024 .bf16 := Memref.whole cc0_stg0_0
abbrev w1M : Memref sig .tc .vmem S1024x4096 .bf16 := Memref.whole cc0_stg1_0
abbrev w2M : Memref sig .tc .vmem S4096x1024 .bf16 := Memref.whole cc0_stg2_0
abbrev oM : Memref sig .tc .vmem S1024x1024 .f32 := Memref.whole cc0_stg3_0
abbrev gM : Memref sig .tc .vmem S8x1024x1024 .bf16 := Memref.whole cc0_scratch0
abbrev aM : Memref sig .tc .vmem S2x1024x1024 .bf16 := Memref.whole cc0_scratch1

theorem inbG (s : ℕ) (hs : s < 8) : ∀ a, (![s, 0, 0] : Fin 3 → ℕ) a + S1x1024x1024.size a ≤ S8x1024x1024.size a := by
  intro a; fin_cases a <;> simp <;> omega
theorem inbA (s : ℕ) (hs : s < 2) : ∀ a, (![s, 0, 0] : Fin 3 → ℕ) a + S1x1024x1024.size a ≤ S2x1024x1024.size a := by
  intro a; fin_cases a <;> simp <;> omega

/-- Slot `s` of the gather buffer, as a rectangle of it; -/
abbrev gR (s : ℕ) (hs : s < 8) : Rect S8x1024x1024 := Rect.unit (s := S8x1024x1024) ![s, 0, 0] S1x1024x1024.size (inbG s hs)
/-- and of the reduction buffer. -/
abbrev aR (s : ℕ) (hs : s < 2) : Rect S2x1024x1024 := Rect.unit (s := S2x1024x1024) ![s, 0, 0] S1x1024x1024.size (inbA s hs)

/-- The two-dimensional view of slot `s` of the gather buffer that the copies name; -/
abbrev gV (s : ℕ) (hs : s < 8) : Memref sig .tc .vmem S1024x1024 .bf16 :=
  (gM.slice (gR s hs) (fun _ => rfl)).squeeze S1024x1024 squeezes_S1x1024x1024_S1024x1024
/-- and of the reduction buffer. -/
abbrev aV (s : ℕ) (hs : s < 2) : Memref sig .tc .vmem S1024x1024 .bf16 :=
  (aM.slice (aR s hs) (fun _ => rfl)).squeeze S1024x1024 squeezes_S1x1024x1024_S1024x1024

/-- A block's contents, as the copies and the arithmetic see them. -/
abbrev Blk (F : FTy → Type) : Type := S1024x1024.Idx → Elt F .bf16

theorem gV_set (s : ℕ) (hs : s < 8) : (gV s hs).view.set = (gM.access (gR s hs)).set := View.set_reshape _ _
theorem aV_set (s : ℕ) (hs : s < 2) : (aV s hs).view.set = (aM.access (aR s hs)).set := View.set_reshape _ _

/-- An element of the gather buffer is in slot `s` exactly if its first coordinate is `s`. -/
theorem mem_gV (s : ℕ) (hs : s < 8) (i : S8x1024x1024.Idx) : i ∈ (gV s hs).view.set ↔ (i (0 : Fin 3)).val = s := by
  rw [gV_set]
  show i ∈ ((View.whole cc0_scratch0).slice (gR s hs)).set ↔ _
  rw [View.set_slice]
  show i ∈ Finset.map (Function.Embedding.refl _) _ ↔ _
  rw [Finset.map_refl, LoadRect.mem_set]
  constructor
  · intro h
    obtain ⟨j, hj, h⟩ := h (0 : Fin 3)
    simp at h hj
    omega
  · intro h a
    have h1 : (i (1 : Fin 3)).val < 1024 := (i (1 : Fin 3)).isLt
    have h2 : (i (2 : Fin 3)).val < 1024 := (i (2 : Fin 3)).isLt
    fin_cases a
    · exact ⟨0, Nat.one_pos, by simpa using h⟩
    · exact ⟨_, h1, by simp⟩
    · exact ⟨_, h2, by simp; rfl⟩

theorem mem_aV (s : ℕ) (hs : s < 2) (i : S2x1024x1024.Idx) : i ∈ (aV s hs).view.set ↔ (i (0 : Fin 3)).val = s := by
  rw [aV_set]
  show i ∈ ((View.whole cc0_scratch1).slice (aR s hs)).set ↔ _
  rw [View.set_slice]
  show i ∈ Finset.map (Function.Embedding.refl _) _ ↔ _
  rw [Finset.map_refl, LoadRect.mem_set]
  constructor
  · intro h
    obtain ⟨j, hj, h⟩ := h (0 : Fin 3)
    simp at h hj
    omega
  · intro h a
    have h1 : (i (1 : Fin 3)).val < 1024 := (i (1 : Fin 3)).isLt
    have h2 : (i (2 : Fin 3)).val < 1024 := (i (2 : Fin 3)).isLt
    fin_cases a
    · exact ⟨0, Nat.one_pos, by simpa using h⟩
    · exact ⟨_, h1, by simp⟩
    · exact ⟨_, h2, by simp; rfl⟩

/-! ## Reading and writing a slot -/

/-- A load of slot `s` as a `1 × 1024 × 1024` vector, cast to a block, is what the slot's view reads. -/
theorem cast_readAt_g (s : ℕ) (hs : s < 8) (f : gM.view.ty.Contents (Elt F)) :
    shapeCast S1024x1024 (gM.view.readAt (Elt F) (gR s hs).toLoadRect f) shapeCasts_S1x1024x1024_S1024x1024 = (gV s hs).view.read (Elt F) f := rfl
theorem cast_readAt_a (s : ℕ) (hs : s < 2) (f : aM.view.ty.Contents (Elt F)) :
    shapeCast S1024x1024 (aM.view.readAt (Elt F) (aR s hs).toLoadRect f) shapeCasts_S1x1024x1024_S1024x1024 = (aV s hs).view.read (Elt F) f := rfl

/-- A store of a whole slot leaves the block that the stored vector casts to. -/
theorem read_store_g (s : ℕ) (hs : s < 8) (f : gM.view.ty.Contents (Elt F)) (w : Vec F S1x1024x1024 .bf16) :
    (gV s hs).view.read (Elt F) ((gM.access (gR s hs)).write (Elt F) f w Finset.univ)
      = shapeCast S1024x1024 w shapeCasts_S1x1024x1024_S1024x1024 := by
  rw [← cast_readAt_g]
  exact congrArg (fun v => shapeCast S1024x1024 v shapeCasts_S1x1024x1024_S1024x1024)
    (View.read_write_univ (v := gM.access (gR s hs)) (Val := Elt F) f w)

/-- A `1 × 1024 × 1024` vector cast to a block, at an index. -/
theorem cast_blk {α : Type} (v : S1x1024x1024.Idx → α) (j : S1024x1024.Idx) :
    shapeCast S1024x1024 v shapeCasts_S1x1024x1024_S1024x1024 j = v (Fin.cons (0 : Fin 1) j : S1x1024x1024.Idx) := by
  have := shapeCast_dropUnit_apply (n := 2) ![1024, 1024] v shapeCasts_S1x1024x1024_S1024x1024 j
  exact this

theorem read_gV_apply (s : ℕ) (hs : s < 8) (f : gM.view.ty.Contents (Elt F)) (j : S1024x1024.Idx) :
    (gV s hs).view.read (Elt F) f j = f (gij s (j (0 : Fin 2)).val (j (1 : Fin 2)).val hs (j (0 : Fin 2)).isLt (j (1 : Fin 2)).isLt) := by
  rw [← cast_readAt_g, cast_blk]
  show f ((gR s hs).toLoadRect.idx _) = _
  congr 1
  funext a
  refine Fin.ext ?_
  rw [LoadRect.idx_apply]
  fin_cases a <;> simp [gij] <;> rfl

/-! ## Tiles of a block: `128` rows at a time -/

theorem tile_lt {t : ℕ} (ht : t < 8) {i : ℕ} (hi : i < 128) : 128 * t + i < 1024 := by omega

/-- Tile `t` of a block. -/
def tileIn (V : Blk F) (t : ℕ) (ht : t < 8) : Vec F S128x1024 .bf16 := fun x =>
  V (ij (128 * t + (x (0 : Fin 2)).val) (x (1 : Fin 2)).val (tile_lt ht (x (0 : Fin 2)).isLt) (x (1 : Fin 2)).isLt)

/-- A load of the rows from `128 t` through a slot's view reads the tile. -/
theorem readAt_tile (M : Memref sig .tc .vmem S1024x1024 .bf16) (t : ℕ) (ht : t < 8) (off : Fin 2 → ℕ) (hoff : off = ![128 * t, 0])
    (inb : ∀ a, off a + S128x1024.size a ≤ S1024x1024.size a) (f : M.view.ty.Contents (Elt F)) :
    M.view.readAt (Elt F) (Rect.unit (s := S1024x1024) off S128x1024.size inb).toLoadRect f = tileIn (M.view.read (Elt F) f) t ht := by
  subst hoff
  funext x
  rw [View.readAt_apply]
  unfold tileIn
  congr 1
  funext a
  refine Fin.ext ?_
  rw [LoadRect.idx_apply]
  fin_cases a <;> simp [ij] <;> rfl

/-- The index of a `1 × 128 × 1024` vector. -/
def uij (i j : ℕ) (hi : i < 128) (hj : j < 1024) : S1x128x1024.Idx
  | ⟨0, _⟩ => ⟨0, Nat.one_pos⟩
  | ⟨1, _⟩ => ⟨i, hi⟩
  | ⟨2, _⟩ => ⟨j, hj⟩

/-- A block whose rows from `128 t` up are replaced by a stored vector's. -/
def putTile (V : Blk F) (t : ℕ) (w : Vec F S1x128x1024 .bf16) : Blk F := fun j =>
  if h : 128 * t ≤ (j (0 : Fin 2)).val ∧ (j (0 : Fin 2)).val < 128 * t + 128 then
    w (uij ((j (0 : Fin 2)).val - 128 * t) (j (1 : Fin 2)).val (by omega) (j (1 : Fin 2)).isLt)
  else V j

/-- What a store through a rectangle of the gather buffer leaves, at an element of the rectangle; -/
theorem write_at (r : Rect S8x1024x1024) (f : gM.view.ty.Contents (Elt F)) (w : r.shape.Idx → Elt F .bf16) (x : r.shape.Idx)
    (i : S8x1024x1024.Idx) (h : i = r.emb x) : (gM.access r).write (Elt F) f w Finset.univ i = w x := by
  subst h
  exact View.read_slice_write_emb (v := gM.view) (Val := Elt F) r f w (Finset.mem_univ x)
/-- and at one outside it. -/
theorem write_off (r : Rect S8x1024x1024) (f : gM.view.ty.Contents (Elt F)) (w : r.shape.Idx → Elt F .bf16)
    (i : S8x1024x1024.Idx) (h : i ∉ Finset.univ.map r.emb) : (gM.access r).write (Elt F) f w Finset.univ i = f i :=
  View.read_slice_write_of_not_mem (v := gM.view) (Val := Elt F) r f w Finset.univ h

/-- A store of a tile into slot `s` of the gather buffer replaces the tile's rows. -/
theorem read_store_tile (s : ℕ) (hs : s < 8) (t : ℕ) (ht : t < 8) (off : Fin 3 → ℕ) (hoff : off = ![s, 128 * t, 0])
    (inb : ∀ a, off a + S1x128x1024.size a ≤ S8x1024x1024.size a) (f : gM.view.ty.Contents (Elt F)) (w : Vec F S1x128x1024 .bf16) :
    (gV s hs).view.read (Elt F) ((gM.access (Rect.unit (s := S8x1024x1024) off S1x128x1024.size inb)).write (Elt F) f w Finset.univ)
      = putTile ((gV s hs).view.read (Elt F) f) t w := by
  subst hoff
  funext j
  have hj0 : (j (0 : Fin 2)).val < 1024 := (j (0 : Fin 2)).isLt
  have hj1 : (j (1 : Fin 2)).val < 1024 := (j (1 : Fin 2)).isLt
  rw [read_gV_apply]
  unfold putTile
  by_cases h : 128 * t ≤ (j (0 : Fin 2)).val ∧ (j (0 : Fin 2)).val < 128 * t + 128
  · rw [dif_pos h]
    refine write_at (Rect.unit (s := S8x1024x1024) ![s, 128 * t, 0] S1x128x1024.size inb) f w (uij ((j (0 : Fin 2)).val - 128 * t) (j (1 : Fin 2)).val (by omega) hj1) _ ?_
    funext a
    refine Fin.ext ?_
    rw [Rect.emb_apply]
    fin_cases a
    · simp [gij, uij]
    · simp [gij, uij]; omega
    · simp [gij, uij]
  · rw [dif_neg h, read_gV_apply]
    refine write_off (Rect.unit (s := S8x1024x1024) ![s, 128 * t, 0] S1x128x1024.size inb) f w _ ?_
    intro hm
    obtain ⟨x, -, hx⟩ := Finset.mem_map.mp hm
    have h1 := congrArg (fun i : S8x1024x1024.Idx => (i (1 : Fin 3)).val) hx
    have hx1 : (x (1 : Fin 3)).val < 128 := (x (1 : Fin 3)).isLt
    dsimp only at h1
    rw [Rect.emb_apply] at h1
    simp [gij] at h1
    exact h ⟨by omega, by omega⟩

/-- The rectangle of a tile of slot `s` lies in the slot. -/
theorem tile_subset (s : ℕ) (hs : s < 8) (t : ℕ) (off : Fin 3 → ℕ) (hoff : off = ![s, 128 * t, 0])
    (inb : ∀ a, off a + S1x128x1024.size a ≤ S8x1024x1024.size a) :
    (gM.access (Rect.unit (s := S8x1024x1024) off S1x128x1024.size inb)).setOn Finset.univ ⊆ (gV s hs).view.set := by
  subst hoff
  intro i hi
  rw [mem_gV]
  obtain ⟨x, -, hx⟩ := Finset.mem_map.mp hi
  have h0 := congrArg (fun i : S8x1024x1024.Idx => (i (0 : Fin 3)).val) hx
  have hx0 : (x (0 : Fin 3)).val < 1 := (x (0 : Fin 3)).isLt
  rw [← h0]
  show ((Rect.unit (s := S8x1024x1024) ![s, 128 * t, 0] S1x128x1024.size inb).emb x (0 : Fin 3)).val = s
  rw [Rect.emb_apply]
  simp
  omega

/-! ## What a device computes from a slot -/

/-- The device's partial result from a gathered block `V`: tile by tile, the printed tile computation over the device's two weight
    blocks. -/
def part (V : Blk F) (W1 : Vec F S1024x4096 .bf16) (W2 : Vec F S4096x1024 .bf16) : Blk F := fun j =>
  k0_pay3 (tileIn V ((j (0 : Fin 2)).val / 128) (Nat.div_lt_of_lt_mul (j (0 : Fin 2)).isLt)) W1 W2
    (uij ((j (0 : Fin 2)).val % 128) (j (1 : Fin 2)).val (Nat.mod_lt _ (by decide)) (j (1 : Fin 2)).isLt)

theorem pay_eq (V : Blk F) (W1 : Vec F S1024x4096 .bf16) (W2 : Vec F S4096x1024 .bf16) (n k a i : ℕ) {c : ℕ} {hc : c < 1024}
    {ha : a < 128} {hi : i < 128} {hn : n < 8} (hk : k < 8) (h : n = k) (h' : a = i) :
    k0_pay3 (tileIn V n hn) W1 W2 (uij a c ha hc) = k0_pay3 (tileIn V k hk) W1 W2 (uij i c hi hc) := by
  subst h; subst h'; rfl

/-- A slot part of the way through its loop: the tiles before `k` hold the partial result, those from `k` on the gathered block. -/
def partTo (k : ℕ) (V : Blk F) (W1 : Vec F S1024x4096 .bf16) (W2 : Vec F S4096x1024 .bf16) : Blk F := fun j =>
  if (j (0 : Fin 2)).val < 128 * k then part V W1 W2 j else V j

theorem partTo_zero (V : Blk F) (W1 : Vec F S1024x4096 .bf16) (W2 : Vec F S4096x1024 .bf16) : partTo 0 V W1 W2 = V := by
  funext j; unfold partTo; rw [if_neg (by omega)]
theorem partTo_eight (V : Blk F) (W1 : Vec F S1024x4096 .bf16) (W2 : Vec F S4096x1024 .bf16) : partTo 8 V W1 W2 = part V W1 W2 := by
  funext j; unfold partTo; rw [if_pos]; exact (j (0 : Fin 2)).isLt

/-- The tile about to be computed still holds the gathered block. -/
theorem tileIn_partTo (k : ℕ) (hk : k < 8) (V : Blk F) (W1 : Vec F S1024x4096 .bf16) (W2 : Vec F S4096x1024 .bf16) :
    tileIn (partTo k V W1 W2) k hk = tileIn V k hk := by
  funext x; unfold tileIn partTo; rw [if_neg]; simp [ij]

/-- Storing a tile's result goes one tile on. -/
theorem putTile_partTo (k : ℕ) (hk : k < 8) (V : Blk F) (W1 : Vec F S1024x4096 .bf16) (W2 : Vec F S4096x1024 .bf16) :
    putTile (partTo k V W1 W2) k (k0_pay3 (tileIn V k hk) W1 W2) = partTo (k + 1) V W1 W2 := by
  funext j
  unfold putTile partTo
  by_cases h : 128 * k ≤ (j (0 : Fin 2)).val ∧ (j (0 : Fin 2)).val < 128 * k + 128
  · rw [dif_pos h, if_pos (by omega)]
    exact (pay_eq V W1 W2 _ _ _ _ hk (by omega) (by omega)).symm
  · rw [dif_neg h]
    by_cases h' : (j (0 : Fin 2)).val < 128 * k
    · rw [if_pos h', if_pos (by omega)]
    · rw [if_neg h', if_neg (by omega)]

/-- The sum of two blocks, as the kernel adds them. -/
def addB (a b : Blk F) : Blk F := addf (F := F) (φ := .bf16) a b

/-- The result block from the last partial result and the last reduction. -/
def outB (a b : Blk F) : FVec F S1024x1024 .f32 := addf (extf .f32 (show FVec F S1024x1024 .bf16 from a) bitsLt_bf16_f32) (extf .f32 (show FVec F S1024x1024 .bf16 from b) bitsLt_bf16_f32)

end Cert.RingProof

end
-- ==== Proof.Common.lean ====
/-
The protocol of the ring kernel: who signals whom, how much, in what order, and what each arrival hands over.

Eight devices form a ring; `nxt c` is device `c`'s right neighbour, `prv c` its left one. Every cell below is device `c`'s own.

* barrier: both neighbours signal it once. The right neighbour's signal hands over that neighbour's gather slots 1 … 7 and both its
  reduction slots, which `c`'s copies write; the left neighbour's hands over nothing.
* gather, send side, hop `h < 7`: `c`'s own copy of slot `h` credits it; the slot comes back.
* gather, receive side, hop `h < 7`: the left neighbour's copy credits it; `c`'s slot `h + 1` arrives holding the block of the device
  `h + 1` places to the left.
* reduction, send side, step `t < 7`: `c`'s own copy of slot `t + 1` credits it; the slot comes back holding the running sum.
* reduction, receive side, step `t < 7`: the left neighbour's copy credits it; `c`'s reduction slot `t % 2` arrives holding the left
  neighbour's running sum, with the fact that the left neighbour has got as far as round `t / 2` of its permission cell `t % 2`.
* permission cells 0 and 1, rounds 0, 1, 2: the right neighbour signals cell `i` in round `r` when it has added its reduction slot
  `i` for the `r`-th time, and hands that slot over (the very last signal of cell 1 hands over nothing).
* permission cell 2: both neighbours signal it once at the end, handing over nothing.
-/
module

public import proofs.«01_k».proof.Proof.Slots

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds and the ring's -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## The ring -/

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide
def ring : Dev nD ≃ Dev nD := ⟨nxt, prv, prv_nxt, nxt_prv⟩

/-! ## The cells -/

/-- Data-movement semaphore number `k` past the four of the staging copies; -/
abbrev dsem (k : ℕ) (hk : k < 28) : DmaSem sig := ⟨4 + k, (show 4 + k < 32 by omega)⟩
/-- regular semaphore number `i`: the three permission cells and, at 3, the barrier. -/
abbrev rsem (i : ℕ) (hi : i < 4) : Sem sig := ⟨i, hi⟩

/-- The cells of a device: gather sends 0 … 6, gather receives 7 … 13, reduction sends 14 … 20, reduction receives 21 … 27; -/
abbrev dcell (c : Dev nD) (k : ℕ) (hk : k < 28) : GSem nD τ sig := ((c : Thread nD τ), .dma (dsem k hk))
/-- permissions 0, 1, 2 and the barrier 3. -/
abbrev rcell (c : Dev nD) (i : ℕ) (hi : i < 4) : GSem nD τ sig := ((c : Thread nD τ), .reg (rsem i hi))

/-- A semaphore's place in one numbering: the data-movement cells as above, the regular ones from 28; a staging semaphore has none. -/
def code : SemLoc sig → ℕ
  | .dma q => if 4 ≤ q.val then q.val - 4 else 99
  | .reg i => 28 + i.val

theorem code_d (k : ℕ) (hk : k < 28) : code (.dma (dsem k hk)) = k := by
  show (if 4 ≤ 4 + k then 4 + k - 4 else 99) = k
  rw [if_pos (Nat.le_add_right _ _)]; omega
theorem code_r (i : ℕ) (hi : i < 4) : code (.reg (rsem i hi)) = 28 + i := rfl

/-- What a copy of one block credits. -/
abbrev N : ℕ := (gV 0 (by decide)).view.dmaCredit
theorem N_pos : 0 < N := View.dmaCredit_pos _ (by decide)
theorem N_g (s : ℕ) (hs : s < 8) : (gV s hs).view.dmaCredit = N := rfl
theorem N_a (s : ℕ) (hs : s < 2) : (aV s hs).view.dmaCredit = N := rfl

/-! ## Contents -/

/-- Device `c`'s block of `x`, -/
def X (c : Dev nD) : Blk F := (win0_0.blk (0 : Fin 1)).view.read (Elt F) ((s₀ m ρ).mem ((c : Thread nD τ).loc main_arg0))
/-- of the first weights, -/
def W1 (c : Dev nD) : Vec F S1024x4096 .bf16 := (win0_1.blk (0 : Fin 1)).view.read (Elt F) ((s₀ m ρ).mem ((c : Thread nD τ).loc main_arg1))
/-- and of the second. -/
def W2 (c : Dev nD) : Vec F S4096x1024 .bf16 := (win0_2.blk (0 : Fin 1)).view.read (Elt F) ((s₀ m ρ).mem ((c : Thread nD τ).loc main_arg2))

/-- Device `c`'s partial result for the block of the device `s` places to its left. -/
def partV (c : Dev nD) (s : ℕ) : Blk F := part (X m ρ (prv^[s] c)) (W1 m ρ c) (W2 m ρ c)
/-- The running sum device `c` sends at step `t`: its own partial result and what the left neighbour sent a step before. -/
def accV : ℕ → Dev nD → Blk F
  | 0, c => partV m ρ c 1
  | t + 1, c => addB (partV m ρ c (t + 2)) (accV t (prv c))
/-- Device `c`'s block of the result. -/
def outV (c : Dev nD) : FVec F S1024x1024 .f32 := outB (partV m ρ c 0) (accV m ρ 6 (prv c))

/-! ## Slot assertions -/

/-- Device `c` owns gather slot `s`, holding `V`; -/
def gSlot (c : Dev nD) (s : ℕ) (hs : s < 8) (V : Blk F) : sProp 𝕄 :=
  iprop(∃ f : Buf (Elt F) ((gV s hs).view.loc (c : Thread nD τ)), ⌜(gV s hs).view.read (Elt F) f = V⌝
    ∗ (gV s hs).view.loc (c : Thread nD τ) ↦[(gV s hs).view.set]{fullShare} f)
/-- reduction slot `s`, holding `V`; -/
def aSlot (c : Dev nD) (s : ℕ) (hs : s < 2) (V : Blk F) : sProp 𝕄 :=
  iprop(∃ f : Buf (Elt F) ((aV s hs).view.loc (c : Thread nD τ)), ⌜(aV s hs).view.read (Elt F) f = V⌝
    ∗ (aV s hs).view.loc (c : Thread nD τ) ↦[(aV s hs).view.set]{fullShare} f)
/-- either one holding anything. -/
def gAny (c : Dev nD) (s : ℕ) (hs : s < 8) : sProp 𝕄 := iprop(∃ V : Blk F, gSlot c s hs V)
def aAny (c : Dev nD) (s : ℕ) (hs : s < 2) : sProp 𝕄 := iprop(∃ V : Blk F, aSlot c s hs V)

omit [FloatOps F] in
instance gSlot_storable (c : Dev nD) (s hs) (V : Blk F) : BI.Storable (upEmb : UEmb _ 𝕄) (gSlot (F := F) c s hs V) := by unfold gSlot; infer_instance
omit [FloatOps F] in
instance aSlot_storable (c : Dev nD) (s hs) (V : Blk F) : BI.Storable (upEmb : UEmb _ 𝕄) (aSlot (F := F) c s hs V) := by unfold aSlot; infer_instance
omit [FloatOps F] in
instance gAny_storable (c : Dev nD) (s hs) : BI.Storable (upEmb : UEmb _ 𝕄) (gAny (F := F) c s hs) := by unfold gAny; infer_instance
omit [FloatOps F] in
instance aAny_storable (c : Dev nD) (s hs) : BI.Storable (upEmb : UEmb _ 𝕄) (aAny (F := F) c s hs) := by unfold aAny; infer_instance

/-! ## The schedule -/

/-- What the right neighbour's barrier signal hands over. -/
def barPay (c : Dev nD) : sProp 𝕄 :=
  iprop(gAny (nxt c) 1 (by decide) ∗ gAny (nxt c) 2 (by decide) ∗ gAny (nxt c) 3 (by decide) ∗ gAny (nxt c) 4 (by decide) ∗ gAny (nxt c) 5 (by decide)
    ∗ gAny (nxt c) 6 (by decide) ∗ gAny (nxt c) 7 (by decide) ∗ aAny (nxt c) 0 (by decide) ∗ aAny (nxt c) 1 (by decide))

theorem mod2_lt (t : ℕ) : t % 2 < 2 := Nat.mod_lt _ (by decide)
theorem mod2_lt4 (t : ℕ) : t % 2 < 4 := by omega

/-- What the cell numbered `k` of device `c` hands over in round `r` at duty `d`. -/
def payK (c : Dev nD) (k r : ℕ) (d : Bool) : sProp 𝕄 :=
  if h : k < 7 then gSlot c k (by omega) (X m ρ (prv^[k] c))
  else if h : k < 14 then gSlot c (k - 7 + 1) (by omega) (X m ρ (prv^[k - 7 + 1] c))
  else if h : k < 21 then gSlot c (k - 14 + 1) (by omega) (accV m ρ (k - 14) c)
  else if h : k < 28 then iprop(aSlot c ((k - 21) % 2) (mod2_lt _) (accV m ρ (k - 21) (prv c))
      ∗ reached ER (rcell (prv c) ((k - 21) % 2) (mod2_lt4 _)) ((k - 21) / 2))
  else if k = 28 then aAny (nxt c) 0 (by decide)
  else if k = 29 then (if r = 2 then iprop(emp) else aAny (nxt c) 1 (by decide))
  else if k = 31 then (if d then barPay c else iprop(emp))
  else iprop(emp)

instance payK_storable (c : Dev nD) (k r : ℕ) (d : Bool) : BI.Storable (upEmb : UEmb _ 𝕄) (payK (F := F) m ρ c k r d) := by
  unfold payK barPay
  (repeat' split) <;> infer_instance

/-- Which duties the cell numbered `k` has in round `r`. -/
def dutK (k r : ℕ) : Finset Bool :=
  if k < 28 then (if r = 0 then {false} else ∅) else if k < 30 then (if r < 3 then {false} else ∅) else if k < 32 then (if r = 0 then Finset.univ else ∅) else ∅

def amtK (k : ℕ) : ℕ := if k < 28 then N else 1

/-- The ring's schedule. -/
def Rd : Rounds.Schedule (GSem nD τ sig) Bool 𝕄 where
  duties g r := if g.1.2 = .tc then dutK (code g.2) r else ∅
  unitless _ := False
  amount g _ _ := amtK (code g.2)
  payload g r d := payK m ρ g.1.1 (code g.2) r d
  amount_pos g _ _ _ := by
    unfold amtK
    split
    · exact N_pos
    · exact Nat.one_pos

instance Rd_storable (g : GSem nD τ sig) (r : ℕ) (d : Bool) : BI.Storable (upEmb : UEmb _ 𝕄) ((Rd (F := F) m ρ).payload g r d) :=
  payK_storable m ρ g.1.1 (code g.2) r d

section Sched
variable (c : Dev nD)

theorem duties_tc (sm : SemLoc sig) (r : ℕ) : (Rd (F := F) m ρ).duties ((c : Thread nD τ), sm) r = dutK (code sm) r := by
  dsimp only [Rd]; exact if_pos rfl
theorem duties_d (k : ℕ) (hk : k < 28) : (Rd (F := F) m ρ).duties (dcell c k hk) 0 = {false} := by
  rw [duties_tc, code_d]; unfold dutK; rw [if_pos hk, if_pos rfl]
theorem later_d (k : ℕ) (hk : k < 28) : ∀ r, 1 ≤ r → (Rd (F := F) m ρ).duties (dcell c k hk) r = ∅ := fun r hr => by
  rw [duties_tc, code_d]; unfold dutK; rw [if_pos hk, if_neg (by omega)]
theorem duties_p (i : ℕ) (hi : i < 2) (r : ℕ) (hr : r < 3) : (Rd (F := F) m ρ).duties (rcell c i (by omega)) r = {false} := by
  rw [duties_tc, code_r]; unfold dutK; rw [if_neg (by omega), if_pos (by omega), if_pos hr]
theorem later_p (i : ℕ) (hi : i < 2) : ∀ r, 3 ≤ r → (Rd (F := F) m ρ).duties (rcell c i (by omega)) r = ∅ := fun r hr => by
  rw [duties_tc, code_r]; unfold dutK; rw [if_neg (by omega), if_pos (by omega), if_neg (by omega)]
theorem duties_b (i : ℕ) (hi : i < 4) (h2 : 2 ≤ i) : (Rd (F := F) m ρ).duties (rcell c i hi) 0 = Finset.univ := by
  rw [duties_tc, code_r]; unfold dutK; rw [if_neg (by omega), if_neg (by omega), if_pos (by omega), if_pos rfl]
theorem later_b (i : ℕ) (hi : i < 4) (h2 : 2 ≤ i) : ∀ r, 1 ≤ r → (Rd (F := F) m ρ).duties (rcell c i hi) r = ∅ := fun r hr => by
  rw [duties_tc, code_r]; unfold dutK; rw [if_neg (by omega), if_neg (by omega), if_pos (by omega), if_neg (by omega)]

theorem amount_d (k : ℕ) (hk : k < 28) (r : ℕ) (d : Bool) : (Rd (F := F) m ρ).amount (dcell c k hk) r d = N := by
  show amtK (code (.dma (dsem k hk))) = _
  rw [code_d]; unfold amtK; rw [if_pos hk]
theorem amount_r (i : ℕ) (hi : i < 4) (r : ℕ) (d : Bool) : (Rd (F := F) m ρ).amount (rcell c i hi) r d = 1 := by
  show amtK (28 + i) = _
  unfold amtK; rw [if_neg (by omega)]

theorem expect_d (k : ℕ) (hk : k < 28) : (Rd (F := F) m ρ).expect (dcell c k hk) 0 = N := by
  unfold Schedule.expect Schedule.amountOf; rw [duties_d, Finset.sum_singleton, amount_d]
theorem expect_p (i : ℕ) (hi : i < 2) (r : ℕ) (hr : r < 3) : (Rd (F := F) m ρ).expect (rcell c i (by omega)) r = 1 := by
  unfold Schedule.expect Schedule.amountOf; rw [duties_p m ρ c i hi r hr, Finset.sum_singleton, amount_r]
theorem expect_b (i : ℕ) (hi : i < 4) (h2 : 2 ≤ i) : (Rd (F := F) m ρ).expect (rcell c i hi) 0 = 2 := by
  unfold Schedule.expect Schedule.amountOf
  rw [duties_b m ρ c i hi h2, Finset.sum_congr rfl fun d _ => amount_r m ρ c i hi 0 d, Finset.sum_const, Finset.card_univ, Fintype.card_bool, smul_eq_mul]

theorem payload_d (k : ℕ) (hk : k < 28) (d : Bool) : (Rd (F := F) m ρ).payload (dcell c k hk) 0 d = payK m ρ c k 0 d := by
  show payK m ρ c (code (.dma (dsem k hk))) 0 d = _
  rw [code_d]
theorem payload_r (i : ℕ) (hi : i < 4) (r : ℕ) (d : Bool) : (Rd (F := F) m ρ).payload (rcell c i hi) r d = payK m ρ c (28 + i) r d := rfl

theorem rest_d (k : ℕ) (hk : k < 28) :
    bigSep ((Rd (F := F) m ρ).duties (dcell c k hk) 0 \ ∅) (fun d => (Rd (F := F) m ρ).payload (dcell c k hk) 0 d) = payK m ρ c k 0 false := by
  rw [Finset.sdiff_empty, duties_d, bigSep_singleton, payload_d]
theorem rest_p (i : ℕ) (hi : i < 2) (r : ℕ) (hr : r < 3) :
    bigSep ((Rd (F := F) m ρ).duties (rcell c i (by omega)) r \ ∅) (fun d => (Rd (F := F) m ρ).payload (rcell c i (by omega)) r d)
      = payK m ρ c (28 + i) r false := by
  rw [Finset.sdiff_empty, duties_p m ρ c i hi r hr, bigSep_singleton, payload_r]
theorem rest_b (i : ℕ) (hi : i < 4) (h2 : 2 ≤ i) :
    bigSep ((Rd (F := F) m ρ).duties (rcell c i hi) 0 \ ∅) (fun d => (Rd (F := F) m ρ).payload (rcell c i hi) 0 d)
      = iprop(payK m ρ c (28 + i) 0 false ∗ payK m ρ c (28 + i) 0 true) := by
  rw [Finset.sdiff_empty, duties_b m ρ c i hi h2, bigSep_univ_eq_bigSepL [false, true] (by decide) (by decide), bigSepL_cons_cons, bigSepL_singleton,
    payload_r, payload_r]
  rfl

theorem pay_agS (h : ℕ) (hh : h < 7) (d : Bool) : payK m ρ c h 0 d = gSlot c h (by omega) (X m ρ (prv^[h] c)) := by
  unfold payK; rw [dif_pos hh]
theorem gSlot_congr {c : Dev nD} {s s' : ℕ} {hs : s < 8} {hs' : s' < 8} {V V' : Blk F} (h : s = s') (hV : V = V') :
    (gSlot c s hs V : sProp 𝕄) = gSlot c s' hs' V' := by subst h; subst hV; rfl
theorem pay_agR (h : ℕ) (hh : h < 7) (d : Bool) : payK m ρ c (7 + h) 0 d = gSlot c (h + 1) (by omega) (X m ρ (prv^[h + 1] c)) := by
  unfold payK; rw [dif_neg (by omega), dif_pos (by omega)]
  have e : 7 + h - 7 = h := by omega
  exact gSlot_congr (by omega) (by rw [e])
theorem pay_rsS (t : ℕ) (ht : t < 7) (d : Bool) : payK m ρ c (14 + t) 0 d = gSlot c (t + 1) (by omega) (accV m ρ t c) := by
  unfold payK; rw [dif_neg (by omega), dif_neg (by omega), dif_pos (by omega)]
  have e : 14 + t - 14 = t := by omega
  exact gSlot_congr (by omega) (by rw [e])
theorem pay_rsR (t : ℕ) (ht : t < 7) (d : Bool) : payK m ρ c (21 + t) 0 d
    = iprop(aSlot c (t % 2) (mod2_lt t) (accV m ρ t (prv c)) ∗ reached ER (rcell (prv c) (t % 2) (mod2_lt4 t)) (t / 2)) := by
  unfold payK; rw [dif_neg (by omega), dif_neg (by omega), dif_neg (by omega), dif_pos (by omega)]
  have : ∀ t', t' = t → iprop(aSlot c (t' % 2) (mod2_lt t') (accV m ρ t' (prv c)) ∗ reached ER (rcell (prv c) (t' % 2) (mod2_lt4 t')) (t' / 2))
      = (iprop(aSlot c (t % 2) (mod2_lt t) (accV m ρ t (prv c)) ∗ reached ER (rcell (prv c) (t % 2) (mod2_lt4 t)) (t / 2)) : sProp 𝕄) := by
    rintro t' rfl; rfl
  exact this _ (by omega)
theorem pay_p (i : ℕ) (hi : i < 2) (r : ℕ) (h : ¬(i = 1 ∧ r = 2)) (d : Bool) : payK m ρ c (28 + i) r d = aAny (nxt c) i hi := by
  unfold payK
  rw [dif_neg (by omega), dif_neg (by omega), dif_neg (by omega), dif_neg (by omega)]
  obtain rfl | rfl : i = 0 ∨ i = 1 := by omega
  · rw [if_pos rfl]
  · rw [if_neg (by decide), if_pos rfl, if_neg (fun h' => h ⟨rfl, h'⟩)]
theorem pay_p_last (d : Bool) : (payK m ρ c (28 + 1) 2 d : sProp 𝕄) = iprop(emp) := by
  unfold payK; rw [dif_neg (by decide), dif_neg (by decide), dif_neg (by decide), dif_neg (by decide), if_neg (by decide), if_pos rfl, if_pos rfl]
theorem pay_q (d : Bool) : (payK m ρ c (28 + 2) 0 d : sProp 𝕄) = iprop(emp) := by
  unfold payK; rw [dif_neg (by decide), dif_neg (by decide), dif_neg (by decide), dif_neg (by decide), if_neg (by decide), if_neg (by decide), if_neg (by decide)]
theorem pay_bar_false : (payK m ρ c (28 + 3) 0 false : sProp 𝕄) = iprop(emp) := by
  unfold payK; rw [dif_neg (by decide), dif_neg (by decide), dif_neg (by decide), dif_neg (by decide), if_neg (by decide), if_neg (by decide), if_pos rfl]; rfl
theorem pay_bar_true : (payK m ρ c (28 + 3) 0 true : sProp 𝕄) = barPay c := by
  unfold payK; rw [dif_neg (by decide), dif_neg (by decide), dif_neg (by decide), dif_neg (by decide), if_neg (by decide), if_neg (by decide), if_pos rfl]; rfl

end Sched

/-! ## What a device owes, in the order in which it pays; the levels -/

/-- One payment: to which neighbour, on which cell of it, in which round. -/
structure Pay where
  right : Bool
  kind : ℕ
  round : ℕ
deriving DecidableEq

/-- The semaphore numbered `k`. -/
def sl (k : ℕ) : SemLoc sig := if h : k < 28 then .dma (dsem k h) else .reg (rsem ((k - 28) % 4) (Nat.mod_lt _ (by decide)))
theorem sl_d (k : ℕ) (hk : k < 28) : sl k = .dma (dsem k hk) := dif_pos hk
theorem sl_r (i : ℕ) (hi : i < 4) : sl (28 + i) = .reg (rsem i hi) := by
  unfold sl; rw [dif_neg (by omega)]
  have : ∀ j (hj : j < 4), j = i → (SemLoc.reg (rsem j hj) : SemLoc sig) = .reg (rsem i hi) := by rintro j hj rfl; rfl
  exact this _ _ (by omega)
theorem code_sl (k : ℕ) (hk : k < 32) : code (sl k) = k := by
  unfold sl; split
  · exact code_d _ _
  · rw [code_r]; omega

/-- The cell numbered `k` of device `c`. -/
abbrev kcell (c : Dev nD) (k : ℕ) : GSem nD τ sig := ((c : Thread nD τ), sl k)
theorem kcell_d (c : Dev nD) (k : ℕ) (hk : k < 28) : kcell c k = dcell c k hk := by unfold kcell; rw [sl_d]
theorem kcell_r (c : Dev nD) (i : ℕ) (hi : i < 4) : kcell c (28 + i) = rcell c i hi := by unfold kcell; rw [sl_r]

def Pay.dev (p : Pay) (c : Dev nD) : Dev nD := if p.right then nxt c else prv c
abbrev Pay.cell (p : Pay) (c : Dev nD) : GSem nD τ sig := kcell (p.dev c) p.kind
def Pay.amt (p : Pay) : ℕ := amtK p.kind

/-- What device `c` owes when the payments `l` are still to come. -/
def owed (c : Dev nD) : List Pay → CellTallies nD τ sig ℕ
  | [] => 0
  | p :: l => owed c l + tallyAt (p.cell c) p.round p.amt

/-- The levels: a wait is allowed while all that is owed lies higher. -/
def lvK (k r : ℕ) : ℕ :=
  if k < 7 then 0 else if k < 14 then 2 + (k - 7) else if k < 21 then 0 else if k < 28 then 11 + 2 * (k - 21)
  else if k < 30 then 10 + 2 * (2 * r + 2 + (k - 28)) else if k = 30 then 200 else if k = 31 then 1 else 0
def lv (g : GSem nD τ sig) (r : ℕ) : ℕ := lvK (code g.2) r
def L (g : GSem nD τ sig) : Finset ℕ := if g.1.2 = .tc then {0, 1, 2} else ∅

theorem L_of_ne (g : GSem nD τ sig) (h : g.1.2 ≠ .tc) : L g = ∅ := if_neg h
theorem L_tc (c : Dev nD) (sm : SemLoc sig) : L ((c : Thread nD τ), sm) = {0, 1, 2} := if_pos rfl

theorem owed_pos {c : Dev nD} {l : List Pay} {g : GSem nD τ sig} {u : ℕ} (h : 0 < owed c l g u) :
    ∃ p ∈ l, g = p.cell c ∧ u = p.round := by
  induction l with
  | nil => exact absurd h (Nat.lt_irrefl 0)
  | cons p l ih =>
    unfold owed at h
    rw [Pi.add_apply, Finsupp.add_apply, tallyAt_apply] at h
    by_cases hp : g = p.cell c ∧ u = p.round
    · exact ⟨p, List.mem_cons_self, hp⟩
    · rw [if_neg hp] at h
      obtain ⟨q, hq, h'⟩ := ih h
      exact ⟨q, List.mem_cons_of_mem _ hq, h'⟩

/-- The payments of `l` all lie above `b`, in rounds that the levels name. -/
def above (b : ℕ) (l : List Pay) : Bool := l.all fun p => decide (b < lvK p.kind p.round) && decide (p.round < 3) && decide (p.kind < 32)

/-- A device may wait on a cell of its own at a level below everything it owes. -/
theorem mayWait (c : Dev nD) (sm : SemLoc sig) (r : ℕ) (hr : r < 3) (l : List Pay) (b : ℕ) (hb : lvK (code sm) r ≤ b) (h : above b l = true) :
    (levAts L lv : sProp 𝕄) ⊢ MayWait (c : Thread nD τ) sm r (owed c l) := by
  have hl : ∀ p ∈ l, (b < lvK p.kind p.round ∧ p.round < 3) ∧ p.kind < 32 := by
    intro p hp
    have := List.all_eq_true.mp h p hp
    simpa using this
  refine MayOwe.of_cut (L := L) (lev := lv) b (fun p hp => ?_) (fun g u hg => ?_) (fun p hp => ?_) (fun g u hg => ?_)
  · rw [Finset.mem_singleton.mp hp, L_tc]
    show r ∈ _
    simp only [Finset.mem_insert, Finset.mem_singleton]; omega
  · obtain ⟨p, hp, rfl, rfl⟩ := owed_pos hg
    rw [L_tc]
    have := (hl p hp).1.2
    simp only [Finset.mem_insert, Finset.mem_singleton]; omega
  · rw [Finset.mem_singleton.mp hp]; exact hb
  · obtain ⟨p, hp, rfl, rfl⟩ := owed_pos hg
    show b < lvK (code (sl p.kind)) p.round
    rw [code_sl _ (hl p hp).2]; exact (hl p hp).1.1

/-- A device's payments in program order. -/
abbrev pays : List Pay :=
  [⟨false, 31, 0⟩, ⟨true, 31, 0⟩, ⟨true, 7, 0⟩, ⟨true, 8, 0⟩, ⟨true, 9, 0⟩, ⟨true, 10, 0⟩, ⟨true, 11, 0⟩, ⟨true, 12, 0⟩, ⟨true, 13, 0⟩,
    ⟨true, 21, 0⟩, ⟨false, 28, 0⟩, ⟨true, 22, 0⟩, ⟨false, 29, 0⟩, ⟨true, 23, 0⟩, ⟨false, 28, 1⟩, ⟨true, 24, 0⟩, ⟨false, 29, 1⟩, ⟨true, 25, 0⟩,
    ⟨false, 28, 2⟩, ⟨true, 26, 0⟩, ⟨false, 29, 2⟩, ⟨true, 27, 0⟩, ⟨false, 30, 0⟩, ⟨true, 30, 0⟩]

theorem pays_above : above 0 pays = true := by decide

/-- The device owes the payments `l`, whatever it has waited for. -/
def owesE (c : Dev nD) (l : List Pay) : sProp 𝕄 := iprop(∃ W, owes (c : Thread nD τ) (owed c l) W)

end Cert.RingProof

end
-- ==== Proof.Steps.lean ====
/-
The kernel's communication steps, each once for every hop, step and round: a copy of a slot to the right neighbour, a wait on a copy,
a permission signal to the left neighbour, a wait for a permission.
-/
module

public import proofs.«01_k».proof.Proof.Common

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Fin 32 → ℕ)

abbrev 𝒱₀ : Variants := Variants.none

/-! ## What every step may use: the cells' invariants, and that every cell has reached round 0 -/

def recs : sProp 𝕄 :=
  bigSep Finset.univ (fun ck : Dev nD × Fin 32 => iprop(cellInv ER (Rd m ρ) (K ck) (kcell ck.1 ck.2.val) ∗ reached ER (kcell ck.1 ck.2.val) 0))

instance recs_persistent : BI.Persistent (recs m ρ K) := by unfold recs; infer_instance

theorem recs_at (c : Dev nD) (k : Fin 32) :
    recs m ρ K ⊢ iprop(cellInv ER (Rd m ρ) (K (c, k)) (kcell c k.val) ∗ reached ER (kcell c k.val) 0) :=
  by unfold recs; exact bigSep_elim (Finset.mem_univ ((c, k) : Dev nD × Fin 32))

theorem recs_d (c : Dev nD) (k : ℕ) (hk : k < 28) :
    recs m ρ K ⊢ iprop(cellInv ER (Rd m ρ) (K (c, ⟨k, by omega⟩)) (dcell c k hk) ∗ reached ER (dcell c k hk) 0) := by
  have h := recs_at m ρ K c ⟨k, by omega⟩
  rwa [show kcell c (⟨k, by omega⟩ : Fin 32).val = dcell c k hk from kcell_d c k hk] at h
theorem recs_r (c : Dev nD) (i : ℕ) (hi : i < 4) :
    recs m ρ K ⊢ iprop(cellInv ER (Rd m ρ) (K (c, ⟨28 + i, by omega⟩)) (rcell c i hi) ∗ reached ER (rcell c i hi) 0) := by
  have h := recs_at m ρ K c ⟨28 + i, by omega⟩
  rwa [show kcell c (⟨28 + i, by omega⟩ : Fin 32).val = rcell c i hi from kcell_r c i hi] at h

/-! ## Waiting for a copy -/

theorem wait_d (c : Dev nD) (k : ℕ) (hk : k < 28) (l : List Pay) (b : ℕ) (hb : lvK k 0 ≤ b) (hl : above b l = true)
    {s₁ s₂ : Shape} {e₁ e₂ : EltTy} {sp₁ sp₂ : Space} {sem : DmaSem sig} (hs : sem = dsem k hk)
    {M₁ : Memref sig .tc sp₁ s₁ e₁} {M₂ : Memref sig .tc sp₂ s₂ e₂} (hN : M₂.view.dmaCredit = N)
    {h₁ : M₁.view.WordExact} {h₂ : M₂.view.WordExact}
    {α : Type} {Q : α → sProp 𝕄} {kk : PUnit → Prog (TpuEff nD τ sig (Elt F) Λ₀ .tc) α} :
    iprop(recs m ρ K ∗ levAts L lv ∗ cred (tallyAt (dcell c k hk) 0 N) ∗ atPos ER (dcell c k hk) 0 ∅ 0 ∗ owesE c l)
      ⊢ iprop(((owesE c l ∗ semVal (dcell c k hk) 0 ∗ payK m ρ c k 0 false) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem M₁ M₂ h₁ h₂) kk) Q) := by
  subst hs
  unfold owesE
  iintro ⟨#HR, #Hlev, Hc, Hat, ⟨%W, HO⟩⟩ Hk
  ihave Hrd := (recs_d m ρ K c k hk) $$ HR
  icases Hrd with ⟨#HI, -⟩
  iapply (Rounds.wp_wait_rest_token 𝒱₀ ER (Rd m ρ) (c : Thread nD τ) none (κ := K (c, ⟨k, by omega⟩))
      (wpE_waitDma2_eq 𝒱₀ (c : Thread nD τ) none Set.univ) (Set.mem_univ _) 0 (O := owed c l) (W := W) (R := 0) (m := 0) (T := ∅)
      (by rw [Nat.zero_add, expect_d]; exact hN)) $$ [Hc HO Hat]
  · isplitr; · iexact HI
    isplitl [Hc]; · rw [hN]; iexact Hc
    isplitl [HO]; · iexact HO
    isplitr
    · iapply (mayWait c _ 0 (by decide) l b (by rw [code_d]; exact hb) hl); iexact Hlev
    iexact Hat
  iintro ⟨HO, Hat, -, Hpay⟩
  ihave Hp := (Entails.of_eq (rest_d m ρ c k hk)) $$ Hpay
  imod (Rounds.cell_close ER (Rd m ρ) (Set.mem_univ (K (c, ⟨k, by omega⟩))) (fun h => h) (R := 0 + 1) (later_d m ρ c k hk)) $$ [Hat] with Hz
  · isplitr; · iexact HI
    iexact Hat
  iapply Hk
  isplitl [HO]; · iexists _; iexact HO
  isplitl [Hz]; · iexact Hz
  iexact Hp

/-- The first payment to come, of a copy to the right neighbour; -/
theorem owed_d (c : Dev nD) (k : ℕ) (hk : k < 28) (l : List Pay) :
    owed c (⟨true, k, 0⟩ :: l) = owed c l + tallyAt (dcell (nxt c) k hk) 0 N := by
  show owed c l + tallyAt (kcell (nxt c) k) 0 (amtK k) = _
  rw [kcell_d _ _ hk, show amtK k = N from if_pos hk]
/-- of a signal to a neighbour. -/
theorem owed_r (c : Dev nD) (b : Bool) (i : ℕ) (hi : i < 4) (r : ℕ) (l : List Pay) :
    owed c (⟨b, 28 + i, r⟩ :: l) = owed c l + tallyAt (rcell (if b then nxt c else prv c) i hi) r 1 := by
  show owed c l + tallyAt (kcell (if b then nxt c else prv c) (28 + i)) r (amtK (28 + i)) = _
  rw [kcell_r _ _ hi, show amtK (28 + i) = 1 from if_neg (by omega)]

/-! ## Copying a slot to the right neighbour -/

/-- The copy of gather slot `h` into the right neighbour's gather slot `h + 1`. -/
theorem send_g (c n : Dev nD) (hn : n = nxt c) (h : ℕ) (hh : h < 7) (l : List Pay) {sS sR : DmaSem sig}
    (hS : sS = dsem h (by omega)) (hR : sR = dsem (7 + h) (by omega))
    {hsc : (gV (h + 1) (by omega) : Memref sig (Dev.tc n : Thread nD τ).2.kind .vmem S1024x1024 .bf16).view.ref.isScScratch = false}
    {hsrc : (gV h (by omega)).view.WordExact} {hdst : (gV (h + 1) (by omega)).view.WordExact}
    {hsem : DmaTarget.Typed .vmem (.dma sR) (.remote (Dev.tc n : Thread nD τ) (gV (h + 1) (by omega)) (.dma sS) hsc)}
    {α : Type} {Q : α → sProp 𝕄} {kk : PUnit → Prog (TpuEff nD τ sig (Elt F) Λ₀ .tc) α} :
    iprop(recs m ρ K ∗ gSlot c h (by omega) (X m ρ (prv^[h] c)) ∗ gAny (nxt c) (h + 1) (by omega)
        ∗ owesE c (⟨true, 7 + h, 0⟩ :: l) ∗ dutyTok ER (dcell c h (by omega)) 0 false ∗ dutyTok ER (dcell (nxt c) (7 + h) (by omega)) 0 false)
      ⊢ iprop(((cred (tallyAt (dcell c h (by omega)) 0 N) ∗ owesE c l) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (gV h (by omega)) (.remote (Dev.tc n : Thread nD τ) (gV (h + 1) (by omega)) (.dma sS) hsc) (.dma sR) hsrc hdst hsem) kk) Q) := by
  subst hn; subst hS; subst hR
  unfold owesE gAny gSlot
  iintro ⟨#HR, ⟨%fs, %hfs, Hsrc⟩, ⟨%V', %fd, %hfd, Hdst⟩, ⟨%W, HO⟩, HtS, HtR⟩ Hk
  ihave Hrd := (recs_d m ρ K c h (by omega)) $$ HR
  icases Hrd with ⟨#HI1, #Hr1⟩
  ihave Hrd := (recs_d m ρ K (nxt c) (7 + h) (by omega)) $$ HR
  icases Hrd with ⟨#HI2, #Hr2⟩
  iapply (Rounds.wp_send_pointsTo 𝒱₀ ER (Rd m ρ) (c : Thread nD τ) none (κ₁ := K (c, ⟨h, by omega⟩)) (κ₂ := K (nxt c, ⟨7 + h, by omega⟩))
    (r₁ := 0) (r₂ := 0) (d₁ := false) (d₂ := false) (fd := fd)
    (by rw [duties_d]; exact Finset.mem_singleton_self _) (by rw [duties_d]; exact Finset.mem_singleton_self _)
    0 0 N rfl (amount_d m ρ c h _ 0 false) (amount_d m ρ (nxt c) (7 + h) _ 0 false) (owed c l)
    (owed_d c (7 + h) _ l) (W := W)
    (by
      rw [payload_d, pay_agS m ρ c h hh]; unfold gSlot
      iintro H; iexists fs
      isplitr; · (ipureintro; exact hfs)
      iexact H)
    (by
      rw [payload_d, pay_agR m ρ (nxt c) h hh]; unfold gSlot
      iintro H; iexists _
      isplitr
      rotate_left
      · iexact H
      · ipureintro
        rw [View.read_write_univ, hfs, Function.iterate_succ_apply, prv_nxt])) $$ [Hsrc Hdst HO HtS HtR]
  · isplitr; · iexact HI1
    isplitr; · iexact HI2
    isplitl [Hsrc]; · iexact Hsrc
    isplitl [Hdst]; · iexact Hdst
    isplitl [HO]; · iexact HO
    isplitl [HtS]; · iexact HtS
    isplitr; · iexact Hr1
    isplitl [HtR]; · iexact HtR
    iexact Hr2
  iintro ⟨Hc, HO⟩
  iapply Hk
  isplitl [Hc]; · iexact Hc
  iexists W; iexact HO

/-- The copy of gather slot `t + 1` into the right neighbour's reduction slot `t % 2`. -/
theorem send_a (c n : Dev nD) (hn : n = nxt c) (t : ℕ) (ht : t < 7) (l : List Pay) {sS sR : DmaSem sig}
    (hS : sS = dsem (14 + t) (by omega)) (hR : sR = dsem (21 + t) (by omega))
    (i : ℕ) (hi : i < 2) (hti : t % 2 = i)
    {hsc : (aV i hi : Memref sig (Dev.tc n : Thread nD τ).2.kind .vmem S1024x1024 .bf16).view.ref.isScScratch = false}
    {hsrc : (gV (t + 1) (by omega)).view.WordExact} {hdst : (aV i hi).view.WordExact}
    {hsem : DmaTarget.Typed .vmem (.dma sR) (.remote (Dev.tc n : Thread nD τ) (aV i hi) (.dma sS) hsc)}
    {α : Type} {Q : α → sProp 𝕄} {kk : PUnit → Prog (TpuEff nD τ sig (Elt F) Λ₀ .tc) α} :
    iprop(recs m ρ K ∗ gSlot c (t + 1) (by omega) (accV m ρ t c) ∗ aAny (nxt c) i hi ∗ reached ER (rcell c i (by omega)) (t / 2)
        ∗ owesE c (⟨true, 21 + t, 0⟩ :: l) ∗ dutyTok ER (dcell c (14 + t) (by omega)) 0 false ∗ dutyTok ER (dcell (nxt c) (21 + t) (by omega)) 0 false)
      ⊢ iprop(((cred (tallyAt (dcell c (14 + t) (by omega)) 0 N) ∗ owesE c l) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (gV (t + 1) (by omega)) (.remote (Dev.tc n : Thread nD τ) (aV i hi) (.dma sS) hsc) (.dma sR) hsrc hdst hsem) kk) Q) := by
  subst hn; subst hS; subst hR; subst hti
  unfold owesE aAny gSlot aSlot
  iintro ⟨#HR, ⟨%fs, %hfs, Hsrc⟩, ⟨%V', %fd, %hfd, Hdst⟩, #Hreach, ⟨%W, HO⟩, HtS, HtR⟩ Hk
  ihave Hrd := (recs_d m ρ K c (14 + t) (by omega)) $$ HR
  icases Hrd with ⟨#HI1, #Hr1⟩
  ihave Hrd := (recs_d m ρ K (nxt c) (21 + t) (by omega)) $$ HR
  icases Hrd with ⟨#HI2, #Hr2⟩
  iapply (Rounds.wp_send_pointsTo_with 𝒱₀ ER (Rd m ρ) (c : Thread nD τ) none (κ₁ := K (c, ⟨14 + t, by omega⟩)) (κ₂ := K (nxt c, ⟨21 + t, by omega⟩))
    (r₁ := 0) (r₂ := 0) (d₁ := false) (d₂ := false) (fd := fd) (F := reached ER (rcell c (t % 2) (by omega)) (t / 2))
    (by rw [duties_d]; exact Finset.mem_singleton_self _) (by rw [duties_d]; exact Finset.mem_singleton_self _)
    0 0 N rfl (amount_d m ρ c (14 + t) _ 0 false) (amount_d m ρ (nxt c) (21 + t) _ 0 false) (owed c l)
    (owed_d c (21 + t) _ l) (W := W)
    (by
      rw [payload_d, pay_rsS m ρ c t ht]; unfold gSlot
      iintro H; iexists fs
      isplitr; · (ipureintro; exact hfs)
      iexact H)
    (by
      rw [payload_d, pay_rsR m ρ (nxt c) t ht, prv_nxt]; unfold aSlot
      iintro ⟨H, Hr⟩
      isplitl [H]
      · iexists _
        isplitr
        rotate_left
        · iexact H
        · ipureintro
          rw [View.read_write_univ, hfs]
      iexact Hr)) $$ [Hsrc Hdst HO HtS HtR]
  · isplitr; · iexact HI1
    isplitr; · iexact HI2
    isplitl [Hsrc]; · iexact Hsrc
    isplitl [Hdst]
    · isplitl [Hdst]; · iexact Hdst
      iexact Hreach
    isplitl [HO]; · iexact HO
    isplitl [HtS]; · iexact HtS
    isplitr; · iexact Hr1
    isplitl [HtR]; · iexact HtR
    iexact Hr2
  iintro ⟨Hc, HO⟩
  iapply Hk
  isplitl [Hc]; · iexact Hc
  iexists W; iexact HO

/-! ## Signals and waits on the regular semaphores -/

/-- A signal of one unit to a neighbour's cell `i` in round `r`, handing over that duty's resources. -/
theorem signal_r (c n : Dev nD) (b : Bool) (hn : n = if b then nxt c else prv c) (i : ℕ) (hi : i < 4) (r : ℕ) (d : Bool)
    (hd : d ∈ (Rd (F := F) m ρ).duties (rcell n i hi) r) (l : List Pay) {sem : Sem sig} (hs : sem = rsem i hi) {u : ℕ} (hu : u = 1)
    {α : Type} {Q : α → sProp 𝕄} {kk : PUnit → Prog (TpuEff nD τ sig (Elt F) Λ₀ .tc) α} :
    iprop(recs m ρ K ∗ reached ER (rcell n i hi) r ∗ payK m ρ n (28 + i) r d ∗ owesE c (⟨b, 28 + i, r⟩ :: l) ∗ dutyTok ER (rcell n i hi) r d)
      ⊢ iprop((owesE c l -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) sem u) kk) Q) := by
  subst hs; subst hu; subst hn
  unfold owesE
  iintro ⟨#HR, #Hr, Hpay, ⟨%W, HO⟩, Ht⟩ Hk
  ihave Hrd := (recs_r m ρ K (if b then nxt c else prv c) i hi) $$ HR
  icases Hrd with ⟨#HI, -⟩
  iapply (Rounds.wp_signal 𝒱₀ ER (Rd m ρ) (c : Thread nD τ) none (dst := ((if b then nxt c else prv c : Dev nD) : Thread nD τ))
      (κ := K (if b then nxt c else prv c, ⟨28 + i, by omega⟩)) (r := r)
      (d := d) hd (amount_r m ρ _ i hi r d) r (owed c l) (owed_r c b i hi r l)) $$ [HO Ht Hpay]
  · isplitr; · iexact HI
    isplitl [HO]; · iexact HO
    isplitl [Ht]; · iexact Ht
    isplitl [Hpay]; · rw [payload_r]; iexact Hpay
    iexact Hr
  iintro HO
  iapply Hk
  iexists W; iexact HO

/-- The wait for a permission in round `r`: the next round is reached, and the slot is handed over. -/
theorem wait_p (c : Dev nD) (i : ℕ) (hi : i < 2) (r : ℕ) (hr : r < 3) (l : List Pay) (b : ℕ) (hb : lvK (28 + i) r ≤ b) (hl : above b l = true)
    {sem : Sem sig} (hs : sem = rsem i (by omega)) {u : ℕ} (hu : u = 1)
    {α : Type} {Q : α → sProp 𝕄} {kk : PUnit → Prog (TpuEff nD τ sig (Elt F) Λ₀ .tc) α} :
    iprop(recs m ρ K ∗ levAts L lv ∗ cred (tallyAt (rcell c i (by omega)) r 1) ∗ atPos ER (rcell c i (by omega)) r ∅ 0 ∗ owesE c l)
      ⊢ iprop(((owesE c l ∗ atPos ER (rcell c i (by omega)) (r + 1) ∅ 0 ∗ reached ER (rcell c i (by omega)) (r + 1) ∗ payK m ρ c (28 + i) r false)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait sem u) kk) Q) := by
  subst hs; subst hu
  unfold owesE
  iintro ⟨#HR, #Hlev, Hc, Hat, ⟨%W, HO⟩⟩ Hk
  ihave Hrd := (recs_r m ρ K c i (by omega)) $$ HR
  icases Hrd with ⟨#HI, -⟩
  iapply (Rounds.wp_wait_rest_token 𝒱₀ ER (Rd m ρ) (c : Thread nD τ) none (κ := K (c, ⟨28 + i, by omega⟩))
      (wpE_semWait_eq 𝒱₀ (c : Thread nD τ) none Set.univ) (Set.mem_univ _) r (O := owed c l) (W := W) (R := r) (m := 0) (T := ∅)
      (by rw [Nat.zero_add, expect_p m ρ c i hi r hr])) $$ [Hc HO Hat]
  · isplitr; · iexact HI
    isplitl [Hc]; · iexact Hc
    isplitl [HO]; · iexact HO
    isplitr
    · iapply (mayWait c (.reg (rsem i _)) r hr l b hb hl); iexact Hlev
    iexact Hat
  iintro ⟨HO, Hat, Hr, Hpay⟩
  ihave Hp := (Entails.of_eq (rest_p m ρ c i hi r hr)) $$ Hpay
  iapply Hk
  isplitl [HO]; · iexists _; iexact HO
  isplitl [Hat]; · iexact Hat
  isplitl [Hr]; · iexact Hr
  iexact Hp

/-- A permission cell past its last round closes. -/
theorem close_p (c : Dev nD) (i : ℕ) (hi : i < 2) :
    iprop(recs m ρ K ∗ atPos ER (rcell c i (by omega)) 3 ∅ 0) ⊢ |={Set.univ}=> (semVal (rcell c i (by omega)) 0 : sProp 𝕄) := by
  iintro ⟨#HR, Hat⟩
  ihave Hrd := (recs_r m ρ K c i (by omega)) $$ HR
  icases Hrd with ⟨#HI, -⟩
  imod (Rounds.cell_close ER (Rd m ρ) (Set.mem_univ (K (c, ⟨28 + i, by omega⟩))) (fun h => h) (R := 3) (later_p m ρ c i hi)) $$ [Hat] with Hz
  · isplitr; · iexact HI
    iexact Hat
  imodintro
  iexact Hz

/-- The wait for both neighbours' signals, on the barrier or on the last permission cell. -/
theorem wait_b (c : Dev nD) (i : ℕ) (hi : i < 4) (h2 : 2 ≤ i) (l : List Pay) (b : ℕ) (hb : lvK (28 + i) 0 ≤ b) (hl : above b l = true)
    {sem : Sem sig} (hs : sem = rsem i hi) {u : ℕ} (hu : u = 2)
    {α : Type} {Q : α → sProp 𝕄} {kk : PUnit → Prog (TpuEff nD τ sig (Elt F) Λ₀ .tc) α} :
    iprop(recs m ρ K ∗ levAts L lv ∗ cred (tallyAt (rcell c i hi) 0 2) ∗ atPos ER (rcell c i hi) 0 ∅ 0 ∗ owesE c l)
      ⊢ iprop(((owesE c l ∗ semVal (rcell c i hi) 0 ∗ payK m ρ c (28 + i) 0 false ∗ payK m ρ c (28 + i) 0 true)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait sem u) kk) Q) := by
  subst hs; subst hu
  unfold owesE
  iintro ⟨#HR, #Hlev, Hc, Hat, ⟨%W, HO⟩⟩ Hk
  ihave Hrd := (recs_r m ρ K c i hi) $$ HR
  icases Hrd with ⟨#HI, -⟩
  iapply (Rounds.wp_wait_rest_token 𝒱₀ ER (Rd m ρ) (c : Thread nD τ) none (κ := K (c, ⟨28 + i, by omega⟩))
      (wpE_semWait_eq 𝒱₀ (c : Thread nD τ) none Set.univ) (Set.mem_univ _) 0 (O := owed c l) (W := W) (R := 0) (m := 0) (T := ∅)
      (by rw [Nat.zero_add, expect_b m ρ c i hi h2])) $$ [Hc HO Hat]
  · isplitr; · iexact HI
    isplitl [Hc]; · iexact Hc
    isplitl [HO]; · iexact HO
    isplitr
    · iapply (mayWait c (.reg (rsem i hi)) 0 (by decide) l b hb hl); iexact Hlev
    iexact Hat
  iintro ⟨HO, Hat, -, Hpay⟩
  ihave Hp := (Entails.of_eq (rest_b m ρ c i hi h2)) $$ Hpay
  imod (Rounds.cell_close ER (Rd m ρ) (Set.mem_univ (K (c, ⟨28 + i, by omega⟩))) (fun h => h) (R := 0 + 1) (later_b m ρ c i hi h2)) $$ [Hat] with Hz
  · isplitr; · iexact HI
    iexact Hat
  iapply Hk
  isplitl [HO]; · iexists _; iexact HO
  isplitl [Hz]; · iexact Hz
  iexact Hp

end Cert.RingProof

end
-- ==== Proof.Turns.lean ====
/-
The kernel's larger steps: one hop of the gather (send, wait for the send, wait for what arrives), one step of the reduction's
exchange, the loads and stores of whole slots, the sum of two slots, and one slot's loop of partial products.
-/
module

public import proofs.«01_k».proof.Proof.Steps

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Fin 32 → ℕ)

/-- What every step reads: the cells' records and the levels. -/
def env : sProp 𝕄 := iprop(recs m ρ K ∗ levAts L lv)

instance env_persistent : BI.Persistent (env m ρ K) := by unfold env; infer_instance

/-! ## Signals and waits on the regular semaphores -/

/-- The signal by which the left neighbour may send into reduction slot `i` again. -/
theorem free_slot (c n : Dev nD) (hn : n = prv c) (i : ℕ) (hi : i < 2) (r : ℕ) (hr : r < 3) (hne : ¬(i = 1 ∧ r = 2)) (V : Blk F) (l : List Pay)
    {sem : Sem sig} (hs : sem = rsem i (by omega)) {u : ℕ} (hu : u = 1)
    {α : Type} {Q : α → sProp 𝕄} {kk : PUnit → Prog (TpuEff nD τ sig (Elt F) Λ₀ .tc) α} :
    env m ρ K
      ⊢ iprop(reached ER (rcell (prv c) i (by omega)) r -∗ aSlot c i hi V -∗ owesE c (⟨false, 28 + i, r⟩ :: l)
          -∗ dutyTok ER (rcell (prv c) i (by omega)) r false
          -∗ (owesE c l -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) sem u) kk) Q) := by
  subst hn
  unfold env
  iintro ⟨#HR, #Hlev⟩ #Hre Ha HO Ht Hk
  iapply (signal_r m ρ K c (prv c) false rfl i (by omega) r false (by rw [duties_p m ρ _ i hi r hr]; exact Finset.mem_singleton_self _) l hs hu) $$ [Ha HO Ht]
  · isplitr; · iexact HR
    isplitr; · iexact Hre
    isplitl [Ha]
    · rw [pay_p m ρ (prv c) i hi r hne, nxt_prv]; unfold aAny; iexists V; iexact Ha
    isplitl [HO]; · iexact HO
    iexact Ht
  iexact Hk

/-- The last signal of the ring's slot 1, which frees nothing. -/
theorem free_last (c n : Dev nD) (hn : n = prv c) (l : List Pay)
    {sem : Sem sig} (hs : sem = rsem 1 (by decide)) {u : ℕ} (hu : u = 1)
    {α : Type} {Q : α → sProp 𝕄} {kk : PUnit → Prog (TpuEff nD τ sig (Elt F) Λ₀ .tc) α} :
    env m ρ K
      ⊢ iprop(reached ER (rcell (prv c) 1 (by decide)) 2 -∗ owesE c (⟨false, 29, 2⟩ :: l) -∗ dutyTok ER (rcell (prv c) 1 (by decide)) 2 false
          -∗ (owesE c l -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) sem u) kk) Q) := by
  subst hn
  unfold env
  iintro ⟨#HR, #Hlev⟩ #Hre HO Ht Hk
  iapply (signal_r m ρ K c (prv c) false rfl 1 (by decide) 2 false (by rw [duties_p m ρ _ 1 (by decide) 2 (by decide)]; exact Finset.mem_singleton_self _) l hs hu)
    $$ [HO Ht]
  · isplitr; · iexact HR
    isplitr; · iexact Hre
    isplitr
    · rw [pay_p_last m ρ (prv c)]; iempintro
    isplitl [HO]; · iexact HO
    iexact Ht
  iexact Hk

/-- A signal on the barrier or on the closing semaphore (`i` from 2 on), handing `P` over. -/
theorem signal_b (c n : Dev nD) (b : Bool) (hn : n = if b then nxt c else prv c) (i : ℕ) (hi : i < 4) (h2 : 2 ≤ i) (d : Bool) (l : List Pay)
    (P : sProp 𝕄) (hP : P ⊢ payK m ρ n (28 + i) 0 d)
    {sem : Sem sig} (hs : sem = rsem i hi) {u : ℕ} (hu : u = 1)
    {α : Type} {Q : α → sProp 𝕄} {kk : PUnit → Prog (TpuEff nD τ sig (Elt F) Λ₀ .tc) α} :
    env m ρ K
      ⊢ iprop(P -∗ owesE c (⟨b, 28 + i, 0⟩ :: l) -∗ dutyTok ER (rcell n i hi) 0 d
          -∗ (owesE c l -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) sem u) kk) Q) := by
  unfold env
  iintro ⟨#HR, #Hlev⟩ HP HO Ht Hk
  ihave Hrd := (recs_r m ρ K n i hi) $$ HR
  icases Hrd with ⟨-, #Hre⟩
  iapply (signal_r m ρ K c n b hn i hi 0 d (by rw [duties_b m ρ _ i hi h2]; exact Finset.mem_univ _) l hs hu) $$ [HP HO Ht]
  · isplitr; · iexact HR
    isplitr; · iexact Hre
    isplitl [HP]; · iapply hP; iexact HP
    isplitl [HO]; · iexact HO
    iexact Ht
  iexact Hk

/-- The wait for the right neighbour's signal that slot `i` is free there. -/
theorem wait_free (c : Dev nD) (i : ℕ) (hi : i < 2) (r : ℕ) (hr : r < 3) (l : List Pay) (b : ℕ) (hb : lvK (28 + i) r ≤ b) (hl : above b l = true)
    {sem : Sem sig} (hs : sem = rsem i (by omega)) {u : ℕ} (hu : u = 1)
    {α : Type} {Q : α → sProp 𝕄} {kk : PUnit → Prog (TpuEff nD τ sig (Elt F) Λ₀ .tc) α} :
    env m ρ K
      ⊢ iprop(cred (tallyAt (rcell c i (by omega)) r 1) -∗ atPos ER (rcell c i (by omega)) r ∅ 0 -∗ owesE c l
          -∗ ((owesE c l ∗ atPos ER (rcell c i (by omega)) (r + 1) ∅ 0 ∗ reached ER (rcell c i (by omega)) (r + 1) ∗ payK m ρ c (28 + i) r false)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait sem u) kk) Q) := by
  unfold env
  iintro ⟨#HR, #Hlev⟩ Hc Hat HO Hk
  iapply (wait_p m ρ K c i hi r hr l b hb hl hs hu) $$ [Hc Hat HO]
  · isplitr; · iexact HR
    isplitr; · iexact Hlev
    isplitl [Hc]; · iexact Hc
    isplitl [Hat]; · iexact Hat
    iexact HO
  iexact Hk

/-- The wait for both neighbours. -/
theorem wait_both (c : Dev nD) (i : ℕ) (hi : i < 4) (h2 : 2 ≤ i) (l : List Pay) (b : ℕ) (hb : lvK (28 + i) 0 ≤ b) (hl : above b l = true)
    {sem : Sem sig} (hs : sem = rsem i hi) {u : ℕ} (hu : u = 2)
    {α : Type} {Q : α → sProp 𝕄} {kk : PUnit → Prog (TpuEff nD τ sig (Elt F) Λ₀ .tc) α} :
    env m ρ K
      ⊢ iprop(cred (tallyAt (rcell c i hi) 0 2) -∗ atPos ER (rcell c i hi) 0 ∅ 0 -∗ owesE c l
          -∗ ((owesE c l ∗ semVal (rcell c i hi) 0 ∗ payK m ρ c (28 + i) 0 false ∗ payK m ρ c (28 + i) 0 true)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait sem u) kk) Q) := by
  unfold env
  iintro ⟨#HR, #Hlev⟩ Hc Hat HO Hk
  iapply (wait_b m ρ K c i hi h2 l b hb hl hs hu) $$ [Hc Hat HO]
  · isplitr; · iexact HR
    isplitr; · iexact Hlev
    isplitl [Hc]; · iexact Hc
    isplitl [Hat]; · iexact Hat
    iexact HO
  iexact Hk

/-! ## A hop -/

/-- What a copy to the right neighbour on the send cell `a` and the receive cell `b` takes: the positions on the device's own two
cells, the two duties' tokens, and the credit for what arrives. -/
def hopPk (c : Dev nD) (a b : ℕ) (ha : a < 28) (hb : b < 28) : sProp 𝕄 :=
  iprop(atPos ER (dcell c a ha) 0 ∅ 0 ∗ atPos ER (dcell c b hb) 0 ∅ 0 ∗ dutyTok ER (dcell c a ha) 0 false
    ∗ dutyTok ER (dcell (nxt c) b hb) 0 false ∗ cred (tallyAt (dcell c b hb) 0 N))

/-- The cell's counter is back at zero. -/
abbrev zd (c : Dev nD) (k : ℕ) (hk : k < 28) : sProp 𝕄 := semVal (dcell c k hk) 0

theorem lvK_agS (h : ℕ) (hh : h < 7) : lvK h 0 ≤ 0 := by unfold lvK; rw [if_pos hh]
theorem lvK_agR (h : ℕ) (hh : h < 7) : lvK (7 + h) 0 ≤ 2 + h := by unfold lvK; rw [if_neg (by omega), if_pos (by omega)]; omega
theorem lvK_rsS (t : ℕ) (ht : t < 7) : lvK (14 + t) 0 ≤ 0 := by
  unfold lvK; rw [if_neg (by omega), if_neg (by omega), if_pos (by omega)]
theorem lvK_rsR (t : ℕ) (ht : t < 7) : lvK (21 + t) 0 ≤ 11 + 2 * t := by
  unfold lvK; rw [if_neg (by omega), if_neg (by omega), if_neg (by omega), if_pos (by omega)]; omega

/-- One hop of the gather. -/
theorem ag_hop (c n : Dev nD) (hn : n = nxt c) (h : ℕ) (hh : h < 7) (l : List Pay) (hl0 : above 0 l = true) (hl : above (2 + h) l = true)
    {sS sR sS' sR' : DmaSem sig}
    (hS : sS = dsem h (by omega)) (hR : sR = dsem (7 + h) (by omega)) (hS' : sS' = dsem h (by omega)) (hR' : sR' = dsem (7 + h) (by omega))
    {hsc : (gV (h + 1) (by omega) : Memref sig (Dev.tc n : Thread nD τ).2.kind .vmem S1024x1024 .bf16).view.ref.isScScratch = false}
    {hsrc : (gV h (by omega)).view.WordExact} {hdst : (gV (h + 1) (by omega)).view.WordExact}
    {hsem : DmaTarget.Typed .vmem (.dma sR) (.remote (Dev.tc n : Thread nD τ) (gV (h + 1) (by omega)) (.dma sS) hsc)}
    {h₁ h₄ : (gV (h + 1) (by omega)).view.WordExact} {h₂ h₃ : (gV h (by omega)).view.WordExact}
    {α : Type} {Q : α → sProp 𝕄} {kk : PUnit → Prog (TpuEff nD τ sig (Elt F) Λ₀ .tc) α} :
    env m ρ K
      ⊢ iprop(gSlot c h (by omega) (X m ρ (prv^[h] c)) -∗ gAny (nxt c) (h + 1) (by omega)
          -∗ owesE c (⟨true, 7 + h, 0⟩ :: l) -∗ hopPk c h (7 + h) (by omega) (by omega) -∗ ((gSlot c h (by omega) (X m ρ (prv^[h] c)) ∗ gSlot c (h + 1) (by omega) (X m ρ (prv^[h + 1] c)) ∗ owesE c l
              ∗ zd c h (by omega) ∗ zd c (7 + h) (by omega))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (gV h (by omega)) (.remote (Dev.tc n : Thread nD τ) (gV (h + 1) (by omega)) (.dma sS) hsc) (.dma sR) hsrc hdst hsem)
                fun _ => .op (.waitDma2 sS' (gV (h + 1) (by omega)) (gV h (by omega)) h₁ h₂)
                fun _ => .op (.waitDma2 sR' (gV h (by omega)) (gV (h + 1) (by omega)) h₃ h₄) kk) Q) := by
  unfold hopPk env
  iintro ⟨#HR, #Hlev⟩ Hg Ha HO ⟨Hat1, Hat2, Ht1, Ht2, Hc2⟩ Hk
  iapply (send_g m ρ K c n hn h hh l hS hR) $$ [Hg Ha HO Ht1 Ht2]
  · isplitr; · iexact HR
    isplitl [Hg]; · iexact Hg
    isplitl [Ha]; · iexact Ha
    isplitl [HO]; · iexact HO
    isplitl [Ht1]; · iexact Ht1
    iexact Ht2
  iintro ⟨Hc1, HO⟩
  iapply (wait_d m ρ K c h (by omega) l 0 (lvK_agS h hh) hl0 hS' (N_g h _)) $$ [Hc1 Hat1 HO]
  · isplitr; · iexact HR
    isplitr; · iexact Hlev
    isplitl [Hc1]; · iexact Hc1
    isplitl [Hat1]; · iexact Hat1
    iexact HO
  iintro ⟨HO, Hz1, Hg⟩
  iapply (wait_d m ρ K c (7 + h) (by omega) l (2 + h) (lvK_agR h hh) hl hR' (N_g (h + 1) _)) $$ [Hc2 Hat2 HO]
  · isplitr; · iexact HR
    isplitr; · iexact Hlev
    isplitl [Hc2]; · iexact Hc2
    isplitl [Hat2]; · iexact Hat2
    iexact HO
  iintro ⟨HO, Hz2, Hg'⟩
  ihave Hg := (Entails.of_eq (pay_agS m ρ c h hh false)) $$ Hg
  ihave Hg' := (Entails.of_eq (pay_agR m ρ c h hh false)) $$ Hg'
  iapply Hk
  isplitl [Hg]; · iexact Hg
  isplitl [Hg']; · iexact Hg'
  isplitl [HO]; · iexact HO
  isplitl [Hz1]; · iexact Hz1
  iexact Hz2

/-- One step of the reduction's exchange. -/
theorem rs_hop (c n : Dev nD) (hn : n = nxt c) (t : ℕ) (ht : t < 7) (i : ℕ) (hi : i < 2) (hti : t % 2 = i)
    (l : List Pay) (hl0 : above 0 l = true) (hl : above (11 + 2 * t) l = true)
    {sS sR sS' sR' : DmaSem sig}
    (hS : sS = dsem (14 + t) (by omega)) (hR : sR = dsem (21 + t) (by omega)) (hS' : sS' = dsem (14 + t) (by omega)) (hR' : sR' = dsem (21 + t) (by omega))
    {hsc : (aV i hi : Memref sig (Dev.tc n : Thread nD τ).2.kind .vmem S1024x1024 .bf16).view.ref.isScScratch = false}
    {hsrc : (gV (t + 1) (by omega)).view.WordExact} {hdst : (aV i hi).view.WordExact}
    {hsem : DmaTarget.Typed .vmem (.dma sR) (.remote (Dev.tc n : Thread nD τ) (aV i hi) (.dma sS) hsc)}
    {h₁ h₄ : (aV i hi).view.WordExact} {h₂ h₃ : (gV (t + 1) (by omega)).view.WordExact}
    {α : Type} {Q : α → sProp 𝕄} {kk : PUnit → Prog (TpuEff nD τ sig (Elt F) Λ₀ .tc) α} :
    env m ρ K
      ⊢ iprop(gSlot c (t + 1) (by omega) (accV m ρ t c) -∗ aAny (nxt c) i hi -∗ reached ER (rcell c i (by omega)) (t / 2)
          -∗ owesE c (⟨true, 21 + t, 0⟩ :: l) -∗ hopPk c (14 + t) (21 + t) (by omega) (by omega) -∗ ((gSlot c (t + 1) (by omega) (accV m ρ t c) ∗ aSlot c i hi (accV m ρ t (prv c)) ∗ reached ER (rcell (prv c) i (by omega)) (t / 2)
              ∗ owesE c l ∗ zd c (14 + t) (by omega) ∗ zd c (21 + t) (by omega))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (gV (t + 1) (by omega)) (.remote (Dev.tc n : Thread nD τ) (aV i hi) (.dma sS) hsc) (.dma sR) hsrc hdst hsem)
                fun _ => .op (.waitDma2 sS' (aV i hi) (gV (t + 1) (by omega)) h₁ h₂)
                fun _ => .op (.waitDma2 sR' (gV (t + 1) (by omega)) (aV i hi) h₃ h₄) kk) Q) := by
  unfold hopPk env
  iintro ⟨#HR, #Hlev⟩ Hg Ha #Hre HO ⟨Hat1, Hat2, Ht1, Ht2, Hc2⟩ Hk
  iapply (send_a m ρ K c n hn t ht l hS hR i hi hti) $$ [Hg Ha HO Ht1 Ht2]
  · isplitr; · iexact HR
    isplitl [Hg]; · iexact Hg
    isplitl [Ha]; · iexact Ha
    isplitr; · iexact Hre
    isplitl [HO]; · iexact HO
    isplitl [Ht1]; · iexact Ht1
    iexact Ht2
  iintro ⟨Hc1, HO⟩
  iapply (wait_d m ρ K c (14 + t) (by omega) l 0 (lvK_rsS t ht) hl0 hS' (N_g (t + 1) _)) $$ [Hc1 Hat1 HO]
  · isplitr; · iexact HR
    isplitr; · iexact Hlev
    isplitl [Hc1]; · iexact Hc1
    isplitl [Hat1]; · iexact Hat1
    iexact HO
  iintro ⟨HO, Hz1, Hg⟩
  iapply (wait_d m ρ K c (21 + t) (by omega) l (11 + 2 * t) (lvK_rsR t ht) hl hR' (N_a i _)) $$ [Hc2 Hat2 HO]
  · isplitr; · iexact HR
    isplitr; · iexact Hlev
    isplitl [Hc2]; · iexact Hc2
    isplitl [Hat2]; · iexact Hat2
    iexact HO
  iintro ⟨HO, Hz2, Hg'⟩
  ihave Hg := (Entails.of_eq (pay_rsS m ρ c t ht false)) $$ Hg
  ihave Hg' := (Entails.of_eq (pay_rsR m ρ c t ht false)) $$ Hg'
  subst hti
  icases Hg' with ⟨Ha, Hr⟩
  iapply Hk
  isplitl [Hg]; · iexact Hg
  isplitl [Ha]; · iexact Ha
  isplitl [Hr]; · iexact Hr
  isplitl [HO]; · iexact HO
  isplitl [Hz1]; · iexact Hz1
  iexact Hz2

/-! ## Loads and stores of whole slots -/

theorem load_g (c : Dev nD) (s : ℕ) (hs : s < 8) (V : Blk F) {hl : gM.view.LoadsAt (gR s hs).toLoadRect}
    {α : Type} {Q : α → sProp 𝕄} {kk : Vec F S1x1024x1024 .bf16 → Prog (TpuEff nD τ sig (Elt F) Λ₀ .tc) α} :
    gSlot c s hs V
      ⊢ iprop((∀ v : Vec F S1x1024x1024 .bf16, ⌜shapeCast S1024x1024 v shapeCasts_S1x1024x1024_S1024x1024 = V⌝ -∗ gSlot c s hs V
            -∗ wp frame (wpE (defs₀ (F := F)) 𝒱₀ (c : Thread nD τ) none) Set.univ (kk v) Q)
          -∗ wp frame (wpE (defs₀ (F := F)) 𝒱₀ (c : Thread nD τ) none) Set.univ (.op (.load gM (gR s hs).toLoadRect hl) kk) Q) := by
  unfold gSlot
  iintro ⟨%f, %hf, H⟩ Hk
  iapply (wp_load 𝒱₀ (c : Thread nD τ) none Set.univ (m := gM) (r := (gR s hs).toLoadRect) (S := (gV s hs).view.set)
    (by rw [gV_set]; exact (View.set_slice gM.view (gR s hs)).ge)) $$ H
  iintro H
  iapply Hk $$ [] [H]
  · ipureintro; exact (cast_readAt_g s hs f).trans hf
  · iexists f; isplitr; · (ipureintro; exact hf)
    iexact H

theorem load_a (c : Dev nD) (s : ℕ) (hs : s < 2) (V : Blk F) {hl : aM.view.LoadsAt (aR s hs).toLoadRect}
    {α : Type} {Q : α → sProp 𝕄} {kk : Vec F S1x1024x1024 .bf16 → Prog (TpuEff nD τ sig (Elt F) Λ₀ .tc) α} :
    aSlot c s hs V
      ⊢ iprop((∀ v : Vec F S1x1024x1024 .bf16, ⌜shapeCast S1024x1024 v shapeCasts_S1x1024x1024_S1024x1024 = V⌝ -∗ aSlot c s hs V
            -∗ wp frame (wpE (defs₀ (F := F)) 𝒱₀ (c : Thread nD τ) none) Set.univ (kk v) Q)
          -∗ wp frame (wpE (defs₀ (F := F)) 𝒱₀ (c : Thread nD τ) none) Set.univ (.op (.load aM (aR s hs).toLoadRect hl) kk) Q) := by
  unfold aSlot
  iintro ⟨%f, %hf, H⟩ Hk
  iapply (wp_load 𝒱₀ (c : Thread nD τ) none Set.univ (m := aM) (r := (aR s hs).toLoadRect) (S := (aV s hs).view.set)
    (by rw [aV_set]; exact (View.set_slice aM.view (aR s hs)).ge)) $$ H
  iintro H
  iapply Hk $$ [] [H]
  · ipureintro; exact (cast_readAt_a s hs f).trans hf
  · iexists f; isplitr; · (ipureintro; exact hf)
    iexact H

theorem store_g (c : Dev nD) (s : ℕ) (hs : s < 8) (V V' : Blk F) (w : Vec F S1x1024x1024 .bf16)
    (hw : shapeCast S1024x1024 w shapeCasts_S1x1024x1024_S1024x1024 = V')
    {hx : (gM.access (gR s hs)).Stores Finset.univ} {hm : (Finset.univ : Finset (gR s hs).shape.Idx) = Finset.univ ∨ ∀ a, (gR s hs).stride a = 1}
    {α : Type} {Q : α → sProp 𝕄} {kk : PUnit → Prog (TpuEff nD τ sig (Elt F) Λ₀ .tc) α} :
    gSlot c s hs V
      ⊢ iprop((gSlot c s hs V' -∗ wp frame (wpE (defs₀ (F := F)) 𝒱₀ (c : Thread nD τ) none) Set.univ (kk ⟨⟩) Q)
          -∗ wp frame (wpE (defs₀ (F := F)) 𝒱₀ (c : Thread nD τ) none) Set.univ (.op (.store gM (gR s hs) w Finset.univ hx hm) kk) Q) := by
  unfold gSlot
  iintro ⟨%f, %hf, H⟩ Hk
  iapply (wp_store 𝒱₀ (c : Thread nD τ) none Set.univ (m := gM) (r := gR s hs) (Mk := Finset.univ) (S := (gV s hs).view.set)
    (by rw [gV_set]; exact View.setOn_subset_set _ _)) $$ H
  iintro H
  iapply Hk
  iexists _
  isplitr
  rotate_left
  · iexact H
  · ipureintro; exact (read_store_g s hs f w).trans hw

/-- The reduction's addition: slot `s` of the gather buffer takes the sum of itself and a reduction slot. -/
theorem add_slots (c : Dev nD) (s : ℕ) (hs : s < 8) (i : ℕ) (hi : i < 2) (V A : Blk F)
    (pw : Vec F S1x1024x1024 .bf16 → Vec F S1x1024x1024 .bf16 → Vec F S1x1024x1024 .bf16)
    (hpw : ∀ v w, shapeCast S1024x1024 (pw v w) shapeCasts_S1x1024x1024_S1024x1024
      = addB (shapeCast S1024x1024 v shapeCasts_S1x1024x1024_S1024x1024) (shapeCast S1024x1024 w shapeCasts_S1x1024x1024_S1024x1024))
    {hl hl' : gM.view.LoadsAt (gR s hs).toLoadRect} {hl₂ : aM.view.LoadsAt (aR i hi).toLoadRect}
    {hx : (gM.access (gR s hs)).Stores Finset.univ} {hm : (Finset.univ : Finset (gR s hs).shape.Idx) = Finset.univ ∨ ∀ a, (gR s hs).stride a = 1}
    {α : Type} {Q : α → sProp 𝕄} {kk : PUnit → Prog (TpuEff nD τ sig (Elt F) Λ₀ .tc) α} :
    gSlot c s hs V
      ⊢ iprop(aSlot c i hi A -∗ ((gSlot c s hs (addB V A) ∗ aSlot c i hi A) -∗ wp frame (wpE (defs₀ (F := F)) 𝒱₀ (c : Thread nD τ) none) Set.univ (kk ⟨⟩) Q)
          -∗ wp frame (wpE (defs₀ (F := F)) 𝒱₀ (c : Thread nD τ) none) Set.univ
            (.op (.load gM (gR s hs).toLoadRect hl) fun v => .op (.load aM (aR i hi).toLoadRect hl₂) fun w => .op (.load gM (gR s hs).toLoadRect hl')
              fun _ => .op (.store gM (gR s hs) (pw v w) Finset.univ hx hm) kk) Q) := by
  iintro Hg Ha Hk
  iapply (load_g c s hs V) $$ Hg
  iintro %v %hv Hg
  iapply (load_a c i hi A) $$ Ha
  iintro %w %hw Ha
  iapply (load_g c s hs V) $$ Hg
  iintro %v' %hv' Hg
  iapply (store_g c s hs V (addB V A) (pw v w) (by rw [hpw, hv, hw])) $$ Hg
  iintro Hg
  iapply Hk
  isplitl [Hg]; · iexact Hg
  iexact Ha

/-! ## A slot's loop -/

/-- Device `c` owns the whole buffer `b`, holding `v`. -/
abbrev pts (c : Dev nD) (b : Ref sig .tc) (v : b.ty.Contents (Elt F)) : sProp 𝕄 := (((c : Thread nD τ).loc b) ↦{fullShare} v)

theorem hz2 : (![0, 0] : Fin 2 → ℕ) = fun _ => 0 := funext fun a => by fin_cases a <;> rfl

abbrev w1R : Rect S1024x4096 := Rect.unit (s := S1024x4096) ![0, 0] S1024x4096.size inb_S1024x4096_S1024x4096_0_0
abbrev w2R : Rect S4096x1024 := Rect.unit (s := S4096x1024) ![0, 0] S4096x1024.size inb_S4096x1024_S4096x1024_0_0
abbrev xR : Rect S1024x1024 := Rect.unit (s := S1024x1024) ![0, 0] S1024x1024.size inb_S1024x1024_S1024x1024_0_0

/-- One trip: a tile is read, multiplied through, and written back over itself. -/
theorem trip (c : Dev nD) (s : ℕ) (hs : s < 8) (V : Blk F) (u1 : Vec F S1024x4096 .bf16) (u2 : Vec F S4096x1024 .bf16) (k : ℕ) (hk : k < 8)
    (off : Fin 2 → ℕ) (hoff : off = ![128 * k, 0]) (inb : ∀ a, off a + S128x1024.size a ≤ S1024x1024.size a)
    (off' : Fin 3 → ℕ) (hoff' : off' = ![s, 128 * k, 0]) (inb' : ∀ a, off' a + S1x128x1024.size a ≤ S8x1024x1024.size a)
    {hl hl' : (gV s hs).view.LoadsAt (Rect.unit (s := S1024x1024) off S128x1024.size inb).toLoadRect}
    {hl₁ : w1M.view.LoadsAt w1R.toLoadRect} {hl₂ : w2M.view.LoadsAt w2R.toLoadRect}
    {hx : (gM.access (Rect.unit (s := S8x1024x1024) off' S1x128x1024.size inb')).Stores Finset.univ}
    {hm : (Finset.univ : Finset (Rect.unit (s := S8x1024x1024) off' S1x128x1024.size inb').shape.Idx) = Finset.univ
      ∨ ∀ a, (Rect.unit (s := S8x1024x1024) off' S1x128x1024.size inb').stride a = 1}
    {Q : Unit → sProp 𝕄} {kk : PUnit → Prog (TpuEff nD τ sig (Elt F) Λ₀ .tc) Unit} :
    iprop(gSlot c s hs (partTo k V u1 u2) ∗ pts c cc0_stg1_0 u1 ∗ pts c cc0_stg2_0 u2)
      ⊢ iprop(((gSlot c s hs (partTo (k + 1) V u1 u2) ∗ pts c cc0_stg1_0 u1 ∗ pts c cc0_stg2_0 u2)
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.load (gV s hs) (Rect.unit (s := S1024x1024) off S128x1024.size inb).toLoadRect hl) fun v => .op (.load w1M w1R.toLoadRect hl₁) fun a =>
              .op (.load w2M w2R.toLoadRect hl₂) fun b => .op (.load (gV s hs) (Rect.unit (s := S1024x1024) off S128x1024.size inb).toLoadRect hl') fun _ =>
              .op (.store gM (Rect.unit (s := S8x1024x1024) off' S1x128x1024.size inb') (k0_pay3 v a b) Finset.univ hx hm) kk) Q) := by
  unfold gSlot
  iintro ⟨⟨%f, %hf, Hg⟩, H1, H2⟩ Hk
  iapply (wp_load 𝒱₀ (c : Thread nD τ) none Set.univ (m := gV s hs) (View.setOn_subset_set _ _)) $$ Hg
  iintro Hg
  iapply (wp_load 𝒱₀ (c : Thread nD τ) none Set.univ (m := w1M) (Finset.subset_univ _)) $$ H1
  iintro H1
  iapply (wp_load 𝒱₀ (c : Thread nD τ) none Set.univ (m := w2M) (Finset.subset_univ _)) $$ H2
  iintro H2
  iapply (wp_load 𝒱₀ (c : Thread nD τ) none Set.univ (m := gV s hs) (View.setOn_subset_set _ _)) $$ Hg
  iintro Hg
  iapply (wp_store 𝒱₀ (c : Thread nD τ) none Set.univ (m := gM) (r := Rect.unit (s := S8x1024x1024) off' S1x128x1024.size inb') (Mk := Finset.univ)
    (S := (gV s hs).view.set) (tile_subset s hs k off' hoff' inb')) $$ Hg
  iintro Hg
  iapply Hk
  isplitl [Hg]
  · iexists _
    isplitr
    rotate_left
    · iexact Hg
    · ipureintro
      have e1 : (gV s hs).view.readAt (Elt F) (Rect.unit (s := S1024x1024) off S128x1024.size inb).toLoadRect f = tileIn V k hk := by
        rw [readAt_tile (gV s hs) k hk off hoff inb f, hf, tileIn_partTo]
      have e2 : w1M.view.readAt (Elt F) w1R.toLoadRect u1 = u1 := Memref.readAt_unit_zero (Elt F) cc0_stg1_0 hz2 _ u1
      have e3 : w2M.view.readAt (Elt F) w2R.toLoadRect u2 = u2 := Memref.readAt_unit_zero (Elt F) cc0_stg2_0 hz2 _ u2
      refine (read_store_tile s hs k hk off' hoff' inb' f _).trans ?_
      rw [hf]
      refine Eq.trans ?_ (putTile_partTo k hk V u1 u2)
      exact congrArg (putTile (partTo k V u1 u2) k) (by rw [← e1]; exact congrArg₂ _ e2 e3)
  isplitl [H1]; · iexact H1
  iexact H2

/-- The whole loop of slot `s`. -/
theorem slot_loop (c : Dev nD) (s : ℕ) (hs : s < 8) (V : Blk F) (u1 : Vec F S1024x4096 .bf16) (u2 : Vec F S4096x1024 .bf16)
    (lp : Scf.Loop 32) (ok : lp.OK) (ht : lp.trips = 8) (body : Fin lp.trips → Unit → Prog (TpuEff nD τ sig (Elt F) Λ₀ .tc) Unit)
    (hb : ∀ (k : Fin lp.trips) (acc : Unit) (Q : Unit → sProp 𝕄),
      iprop(gSlot c s hs (partTo k.val V u1 u2) ∗ pts c cc0_stg1_0 u1 ∗ pts c cc0_stg2_0 u2)
        ⊢ iprop(((gSlot c s hs (partTo (k.val + 1) V u1 u2) ∗ pts c cc0_stg1_0 u1 ∗ pts c cc0_stg2_0 u2)
              -∗ wp frame (wpE (defs₀ (F := F)) 𝒱₀ (c : Thread nD τ) none) Set.univ (.ret ⟨⟩ : Prog (TpuEff nD τ sig (Elt F) Λ₀ .tc) Unit) Q)
          -∗ wp frame (wpE (defs₀ (F := F)) 𝒱₀ (c : Thread nD τ) none) Set.univ (body k acc) Q))
    {α : Type} {Q : α → sProp 𝕄} {kk : Unit → Prog (TpuEff nD τ sig (Elt F) Λ₀ .tc) α} :
    iprop(gSlot c s hs V ∗ pts c cc0_stg1_0 u1 ∗ pts c cc0_stg2_0 u2)
      ⊢ iprop(((gSlot c s hs (part V u1 u2) ∗ pts c cc0_stg1_0 u1 ∗ pts c cc0_stg2_0 u2)
            -∗ wp frame (wpE (defs₀ (F := F)) 𝒱₀ (c : Thread nD τ) none) Set.univ (kk ⟨⟩) Q)
        -∗ wp frame (wpE (defs₀ (F := F)) 𝒱₀ (c : Thread nD τ) none) Set.univ (Scf.Loop.for lp ok ⟨⟩ body >>= kk) Q) := by
  have h := Scf.wp_for_bind frame (wpE (defs₀ (F := F)) 𝒱₀ (c : Thread nD τ) none) Set.univ lp.lb lp.ub lp.st ok (⟨⟩ : Unit) body
    (fun k _ => iprop(gSlot c s hs (partTo k V u1 u2) ∗ pts c cc0_stg1_0 u1 ∗ pts c cc0_stg2_0 u2))
    (fun k acc => by
      iintro H
      iapply (hb k acc _) $$ H
      iintro H
      rw [wp_ret]; imodintro
      iexact H) (kk := kk) (Q := Q)
  rw [partTo_zero] at h
  iintro H Hk
  iapply h $$ H
  iintro %acc H
  have e : Scf.trips lp.lb lp.ub lp.st = 8 := ht
  rw [e, partTo_eight]
  iapply Hk
  iexact H

end Cert.RingProof

end
-- ==== Proof.Body.lean ====
/-
The kernel's body on one device, run from what the launch gives it to the result block in place, every slot its own again and every
semaphore at zero.
-/
module

public import proofs.«01_k».proof.Proof.Turns
public import Idealize.ShloMosaic.Lib.Pipeline.Value

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Fin 32 → ℕ)

/-! ## What the body starts from and ends with -/

/-- The two permission cells: positions, the left neighbour's duties' tokens, and the credits for the right neighbour's signals. -/
def permPk (c : Dev nD) (i : ℕ) (hi : i < 4) : sProp 𝕄 :=
  iprop(atPos ER (rcell c i hi) 0 ∅ 0
    ∗ (dutyTok ER (rcell (prv c) i hi) 0 false ∗ dutyTok ER (rcell (prv c) i hi) 1 false ∗ dutyTok ER (rcell (prv c) i hi) 2 false)
    ∗ (cred (tallyAt (rcell c i hi) 0 1) ∗ cred (tallyAt (rcell c i hi) 1 1) ∗ cred (tallyAt (rcell c i hi) 2 1)))
/-- The barrier's cell and the closing one's: position, a token at either neighbour, and the credit for both neighbours' signals. -/
def bothPk (c : Dev nD) (i : ℕ) (hi : i < 4) : sProp 𝕄 :=
  iprop(atPos ER (rcell c i hi) 0 ∅ 0 ∗ dutyTok ER (rcell (nxt c) i hi) 0 false ∗ dutyTok ER (rcell (prv c) i hi) 0 true
    ∗ cred (tallyAt (rcell c i hi) 0 2))

/-- The ghost state one device's body starts from. -/
def ghost (c : Dev nD) : sProp 𝕄 :=
  iprop((bigSep Finset.univ fun h : Fin 7 => hopPk c h.val (7 + h.val) (by omega) (by omega))
    ∗ (bigSep Finset.univ fun t : Fin 7 => hopPk c (14 + t.val) (21 + t.val) (by omega) (by omega))
    ∗ permPk c 0 (by decide) ∗ permPk c 1 (by decide) ∗ bothPk c 2 (by decide) ∗ bothPk c 3 (by decide))

/-- All the slots of both scratch buffers, holding anything. -/
def slots (c : Dev nD) : sProp 𝕄 :=
  iprop((bigSep Finset.univ fun s : Fin 8 => gAny c s.val s.isLt) ∗ (bigSep Finset.univ fun s : Fin 2 => aAny c s.val s.isLt))

/-- Every semaphore of the ring but the barrier's at zero. -/
def zeros (c : Dev nD) : sProp 𝕄 := bigSep Finset.univ fun k : Fin 31 => semVal (kcell c k.val) 0

theorem fin7_eq (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]; rfl
theorem fin8_eq (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]; rfl
theorem fin2_eq (Φ : Fin 2 → sProp 𝕄) : bigSep Finset.univ Φ = iprop(Φ 0 ∗ Φ 1) := by
  rw [bigSep_univ_eq_bigSepL [0, 1] (by decide) (by decide)]; rfl
theorem fin31_eq (Φ : Fin 31 → sProp 𝕄) : bigSep Finset.univ Φ = bigSepL [0, 1, 2, 3, 4, 5, 6, 7, 8, 9, 10, 11, 12, 13, 14, 15, 16, 17, 18, 19, 20,
    21, 22, 23, 24, 25, 26, 27, 28, 29, 30] Φ :=
  bigSep_univ_eq_bigSepL _ (by decide) (by decide) _

theorem slots_eq (c : Dev nD) : (slots c : sProp 𝕄) = iprop((gAny c 0 (by decide) ∗ gAny c 1 (by decide) ∗ gAny c 2 (by decide) ∗ gAny c 3 (by decide) ∗ gAny c 4 (by decide) ∗ gAny c 5 (by decide) ∗ gAny c 6 (by decide) ∗ gAny c 7 (by decide))
    ∗ (aAny c 0 (by decide) ∗ aAny c 1 (by decide))) := by
  unfold slots; rw [fin8_eq, fin2_eq]; rfl

theorem ghost_eq (c : Dev nD) : (ghost c : sProp 𝕄)
    = iprop((hopPk c 0 7 (by decide) (by decide) ∗ hopPk c 1 8 (by decide) (by decide) ∗ hopPk c 2 9 (by decide) (by decide) ∗ hopPk c 3 10 (by decide) (by decide) ∗ hopPk c 4 11 (by decide) (by decide) ∗ hopPk c 5 12 (by decide) (by decide) ∗ hopPk c 6 13 (by decide) (by decide))
      ∗ (hopPk c 14 21 (by decide) (by decide) ∗ hopPk c 15 22 (by decide) (by decide) ∗ hopPk c 16 23 (by decide) (by decide) ∗ hopPk c 17 24 (by decide) (by decide) ∗ hopPk c 18 25 (by decide) (by decide) ∗ hopPk c 19 26 (by decide) (by decide) ∗ hopPk c 20 27 (by decide) (by decide))
      ∗ permPk c 0 (by decide) ∗ permPk c 1 (by decide) ∗ bothPk c 2 (by decide) ∗ bothPk c 3 (by decide)) := by
  unfold ghost; rw [fin7_eq, fin7_eq]; rfl

theorem zeros_eq (c : Dev nD) : (zeros c : sProp 𝕄) = iprop(zd c 0 (by decide) ∗ zd c 1 (by decide) ∗ zd c 2 (by decide) ∗ zd c 3 (by decide) ∗ zd c 4 (by decide) ∗ zd c 5 (by decide) ∗ zd c 6 (by decide) ∗ zd c 7 (by decide) ∗ zd c 8 (by decide) ∗ zd c 9 (by decide) ∗ zd c 10 (by decide) ∗ zd c 11 (by decide) ∗ zd c 12 (by decide) ∗ zd c 13 (by decide) ∗ zd c 14 (by decide) ∗ zd c 15 (by decide) ∗ zd c 16 (by decide) ∗ zd c 17 (by decide) ∗ zd c 18 (by decide) ∗ zd c 19 (by decide) ∗ zd c 20 (by decide) ∗ zd c 21 (by decide) ∗ zd c 22 (by decide) ∗ zd c 23 (by decide) ∗ zd c 24 (by decide) ∗ zd c 25 (by decide) ∗ zd c 26 (by decide) ∗ zd c 27 (by decide) ∗ semVal (rcell c 0 (by decide)) 0 ∗ semVal (rcell c 1 (by decide)) 0 ∗ semVal (rcell c 2 (by decide)) 0) := by
  unfold zeros; rw [fin31_eq]; rfl

theorem env_recs : env m ρ K ⊢ recs m ρ K := by
  unfold env; iintro ⟨H, -⟩; iexact H

theorem gAny_elim (c : Dev nD) (s : ℕ) (hs : s < 8) : (gAny c s hs : sProp 𝕄) ⊢ iprop(∃ V : Blk F, gSlot c s hs V) := .rfl

/-- What the slots hold, by name. -/
theorem gSlot_part (c : Dev nD) (s : ℕ) (hs : s < 8) :
    (gSlot c s hs (part (X m ρ (prv^[s] c)) (W1 m ρ c) (W2 m ρ c)) : sProp 𝕄) ⊢ gSlot c s hs (partV m ρ c s) := .rfl
theorem gSlot_acc0 (c : Dev nD) (hs : 1 < 8) : (gSlot c 1 hs (partV m ρ c 1) : sProp 𝕄) ⊢ gSlot c 1 hs (accV m ρ 0 c) := .rfl
theorem gSlot_acc (c : Dev nD) (t : ℕ) (hs : t + 2 < 8) :
    (gSlot c (t + 2) hs (addB (partV m ρ c (t + 2)) (accV m ρ t (prv c))) : sProp 𝕄) ⊢ gSlot c (t + 2) hs (accV m ρ (t + 1) c) := .rfl

theorem gAny_of (c : Dev nD) (s : ℕ) (hs : s < 8) (V : Blk F) : (gSlot c s hs V : sProp 𝕄) ⊢ gAny c s hs := by
  unfold gAny; iintro H; iexists V; iexact H
theorem aAny_of (c : Dev nD) (s : ℕ) (hs : s < 2) (V : Blk F) : (aSlot c s hs V : sProp 𝕄) ⊢ aAny c s hs := by
  unfold aAny; iintro H; iexists V; iexact H

/-- A device named by the kernel's word arithmetic is the right neighbour, or the left one. -/
theorem dev_r {c : Dev nD} {n : ℕ} {h : n < nD} (e : n = (c.val + 1) % 8) : (⟨n, h⟩ : Dev nD) = nxt c := Fin.ext e
theorem dev_l {c : Dev nD} {n : ℕ} {h : n < nD} (e : n = (c.val + 7) % 8) : (⟨n, h⟩ : Dev nD) = prv c := Fin.ext e

theorem cast_pay2 (v : Blk F) : shapeCast S1024x1024 (k0_pay2 (F := F) v) shapeCasts_S1x1024x1024_S1024x1024 = v := by
  unfold k0_pay2
  rw [shapeCast_shapeCast, shapeCast_self]

/-- The sum that the kernel stores, through the casts around it. -/
theorem cast_sum (v w : Vec F S1x1024x1024 .bf16) : shapeCast S1024x1024 (k0_pay11 (F := F) v w) shapeCasts_S1x1024x1024_S1024x1024
    = addB (shapeCast S1024x1024 v shapeCasts_S1x1024x1024_S1024x1024) (shapeCast S1024x1024 w shapeCasts_S1x1024x1024_S1024x1024) := by
  unfold k0_pay11
  rw [shapeCast_shapeCast]; rfl

set_option maxHeartbeats 2000000 in
/-- The body, step by step in program order. -/
theorem body_run (c : Dev nD) (g3 : FVec F S1024x1024 .f32) (Kt : PUnit → sProp 𝕄) :
    iprop(env m ρ K ∗ ghost c ∗ slots c ∗ owesE c pays ∗ pts c cc0_stg0_0 (X m ρ c) ∗ pts c cc0_stg1_0 (W1 m ρ c) ∗ pts c cc0_stg2_0 (W2 m ρ c)
        ∗ pts c cc0_stg3_0 g3
        ∗ ((slots c ∗ zeros c ∗ semVal (rcell c 3 (by decide)) 0 ∗ owesE c [] ∗ pts c cc0_stg0_0 (X m ρ c) ∗ pts c cc0_stg1_0 (W1 m ρ c)
            ∗ pts c cc0_stg2_0 (W2 m ρ c) ∗ pts c cc0_stg3_0 (outV m ρ c)) -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            cc0_scratch2 cc0_scratch3 cc0_scratch4 cc0_scratch5 cc0_scratch6) Kt := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel]
  simp only [semSignalWord, semWaitWord, Prog.lift, Prog.bind_op, Prog.bind_ret, Prog.pure_eq_ret, wp_deviceId, bind_assoc]
  rw [ghost_eq, slots_eq, zeros_eq]
  unfold permPk bothPk
  iintro ⟨#HE, ⟨⟨P0, P1, P2, P3, P4, P5, P6⟩, ⟨R0, R1, R2, R3, R4, R5, R6⟩, ⟨A0, ⟨T00, T01, T02⟩, ⟨C00, C01, C02⟩⟩, ⟨A1, ⟨T10, T11, T12⟩, ⟨C10, C11, C12⟩⟩,
    ⟨A2, Tr2, Tl2, C2⟩, ⟨A3, Tr3, Tl3, C3⟩⟩, ⟨⟨G0, G1, G2, G3, G4, G5, G6, G7⟩, ⟨S0, S1⟩⟩, HO, Hx, H1, H2, H3, Hk⟩
  ihave Hre0 := (env_recs m ρ K) $$ HE
  icases Hre0 with #HR
  -- the barrier: the slots go to the left neighbour, the right neighbour's arrive
  iapply (signal_b m ρ K c _ false (dev_l (k0_dev1_eq c)) 3 (by decide) (by decide) true _ (barPay (prv c))
    (by rw [dev_l (k0_dev1_eq c), pay_bar_true]) rfl rfl) $$ HE [G1 G2 G3 G4 G5 G6 G7 S0 S1] HO [Tl3]
  · unfold barPay; rw [nxt_prv]
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [S0]; · iexact S0
    iexact S1
  · rw [dev_l (k0_dev1_eq c)]; iexact Tl3
  iintro HO
  iapply (signal_b m ρ K c _ true (dev_r (k0_dev2_eq c)) 3 (by decide) (by decide) false _ iprop(emp)
    (by rw [dev_r (k0_dev2_eq c), pay_bar_false]) rfl rfl) $$ HE [] HO [Tr3]
  · iempintro
  · rw [dev_r (k0_dev2_eq c)]; iexact Tr3
  iintro HO
  iapply (wait_both m ρ K c 3 _ (by decide) _ 1 (by decide) (by decide) rfl rfl) $$ HE C3 A3 HO
  iintro ⟨HO, Zb, -, Hbar⟩
  ihave Hbar := (Entails.of_eq (pay_bar_true m ρ c)) $$ Hbar
  unfold barPay
  icases Hbar with ⟨N1, N2, N3, N4, N5, N6, N7, B0, B1⟩
  -- the device's own block of `x` goes into slot 0
  iapply (wp_load 𝒱₀ (c : Thread nD τ) none Set.univ (m := xM) (Finset.subset_univ _)) $$ Hx
  iintro Hx
  ihave G0 := (gAny_elim c 0 _) $$ G0
  icases G0 with ⟨%V0, G0⟩
  iapply (load_g c 0 _ V0) $$ G0
  iintro %v0 %hv0 G0
  iapply (store_g c 0 _ V0 (X m ρ (prv^[0] c)) _ (by rw [show xM.view.readAt (Elt F) xR.toLoadRect (X m ρ c) = X m ρ c from
    Memref.readAt_unit_zero (Elt F) cc0_stg0_0 hz2 _ _]; exact cast_pay2 _)) $$ G0
  iintro G0
  -- the gather
  iapply (ag_hop m ρ K c _ (dev_r (k0_dev3_eq c)) 0 (by decide) _ (by decide) (by decide) rfl rfl rfl rfl) $$ HE G0 N1 HO P0
  iintro ⟨G0, G1, HO, Z0, Z7⟩
  iapply (ag_hop m ρ K c _ (dev_r (k0_dev4_eq c)) 1 (by decide) _ (by decide) (by decide) rfl rfl rfl rfl) $$ HE G1 N2 HO P1
  iintro ⟨G1, G2, HO, Z1, Z8⟩
  iapply (ag_hop m ρ K c _ (dev_r (k0_dev5_eq c)) 2 (by decide) _ (by decide) (by decide) rfl rfl rfl rfl) $$ HE G2 N3 HO P2
  iintro ⟨G2, G3, HO, Z2, Z9⟩
  iapply (ag_hop m ρ K c _ (dev_r (k0_dev6_eq c)) 3 (by decide) _ (by decide) (by decide) rfl rfl rfl rfl) $$ HE G3 N4 HO P3
  iintro ⟨G3, G4, HO, Z3, Z10⟩
  iapply (ag_hop m ρ K c _ (dev_r (k0_dev7_eq c)) 4 (by decide) _ (by decide) (by decide) rfl rfl rfl rfl) $$ HE G4 N5 HO P4
  iintro ⟨G4, G5, HO, Z4, Z11⟩
  iapply (ag_hop m ρ K c _ (dev_r (k0_dev8_eq c)) 5 (by decide) _ (by decide) (by decide) rfl rfl rfl rfl) $$ HE G5 N6 HO P5
  iintro ⟨G5, G6, HO, Z5, Z12⟩
  iapply (ag_hop m ρ K c _ (dev_r (k0_dev9_eq c)) 6 (by decide) _ (by decide) (by decide) rfl rfl rfl rfl) $$ HE G6 N7 HO P6
  iintro ⟨G6, G7, HO, Z6, Z13⟩
  -- every slot's partial products
  iapply (slot_loop c 0 (by decide) (X m ρ (prv^[0] c)) (W1 m ρ c) (W2 m ρ c) k0_t1_loop k0_t1_ok rfl _
    (fun k acc Q => trip c 0 (by decide) _ _ _ k.val (lt_of_lt_of_eq k.isLt rfl) _ (k0_off1_eq k) _ _ (k0_off2_eq k) _)) $$ [G0 H1 H2]
  · isplitl [G0]; · iexact G0
    isplitl [H1] <;> iassumption
  iintro ⟨G0, H1, H2⟩
  ihave G0 := (gSlot_part m ρ c 0 _) $$ G0
  iapply (slot_loop c 1 (by decide) (X m ρ (prv^[1] c)) (W1 m ρ c) (W2 m ρ c) k0_t2_loop k0_t2_ok rfl _
    (fun k acc Q => trip c 1 (by decide) _ _ _ k.val (lt_of_lt_of_eq k.isLt rfl) _ (k0_off3_eq k) _ _ (k0_off4_eq k) _)) $$ [G1 H1 H2]
  · isplitl [G1]; · iexact G1
    isplitl [H1] <;> iassumption
  iintro ⟨G1, H1, H2⟩
  ihave G1 := (gSlot_part m ρ c 1 _) $$ G1
  iapply (slot_loop c 2 (by decide) (X m ρ (prv^[2] c)) (W1 m ρ c) (W2 m ρ c) k0_t3_loop k0_t3_ok rfl _
    (fun k acc Q => trip c 2 (by decide) _ _ _ k.val (lt_of_lt_of_eq k.isLt rfl) _ (k0_off5_eq k) _ _ (k0_off6_eq k) _)) $$ [G2 H1 H2]
  · isplitl [G2]; · iexact G2
    isplitl [H1] <;> iassumption
  iintro ⟨G2, H1, H2⟩
  ihave G2 := (gSlot_part m ρ c 2 _) $$ G2
  iapply (slot_loop c 3 (by decide) (X m ρ (prv^[3] c)) (W1 m ρ c) (W2 m ρ c) k0_t4_loop k0_t4_ok rfl _
    (fun k acc Q => trip c 3 (by decide) _ _ _ k.val (lt_of_lt_of_eq k.isLt rfl) _ (k0_off7_eq k) _ _ (k0_off8_eq k) _)) $$ [G3 H1 H2]
  · isplitl [G3]; · iexact G3
    isplitl [H1] <;> iassumption
  iintro ⟨G3, H1, H2⟩
  ihave G3 := (gSlot_part m ρ c 3 _) $$ G3
  iapply (slot_loop c 4 (by decide) (X m ρ (prv^[4] c)) (W1 m ρ c) (W2 m ρ c) k0_t5_loop k0_t5_ok rfl _
    (fun k acc Q => trip c 4 (by decide) _ _ _ k.val (lt_of_lt_of_eq k.isLt rfl) _ (k0_off9_eq k) _ _ (k0_off10_eq k) _)) $$ [G4 H1 H2]
  · isplitl [G4]; · iexact G4
    isplitl [H1] <;> iassumption
  iintro ⟨G4, H1, H2⟩
  ihave G4 := (gSlot_part m ρ c 4 _) $$ G4
  iapply (slot_loop c 5 (by decide) (X m ρ (prv^[5] c)) (W1 m ρ c) (W2 m ρ c) k0_t6_loop k0_t6_ok rfl _
    (fun k acc Q => trip c 5 (by decide) _ _ _ k.val (lt_of_lt_of_eq k.isLt rfl) _ (k0_off11_eq k) _ _ (k0_off12_eq k) _)) $$ [G5 H1 H2]
  · isplitl [G5]; · iexact G5
    isplitl [H1] <;> iassumption
  iintro ⟨G5, H1, H2⟩
  ihave G5 := (gSlot_part m ρ c 5 _) $$ G5
  iapply (slot_loop c 6 (by decide) (X m ρ (prv^[6] c)) (W1 m ρ c) (W2 m ρ c) k0_t7_loop k0_t7_ok rfl _
    (fun k acc Q => trip c 6 (by decide) _ _ _ k.val (lt_of_lt_of_eq k.isLt rfl) _ (k0_off13_eq k) _ _ (k0_off14_eq k) _)) $$ [G6 H1 H2]
  · isplitl [G6]; · iexact G6
    isplitl [H1] <;> iassumption
  iintro ⟨G6, H1, H2⟩
  ihave G6 := (gSlot_part m ρ c 6 _) $$ G6
  iapply (slot_loop c 7 (by decide) (X m ρ (prv^[7] c)) (W1 m ρ c) (W2 m ρ c) k0_t8_loop k0_t8_ok rfl _
    (fun k acc Q => trip c 7 (by decide) _ _ _ k.val (lt_of_lt_of_eq k.isLt rfl) _ (k0_off15_eq k) _ _ (k0_off16_eq k) _)) $$ [G7 H1 H2]
  · isplitl [G7]; · iexact G7
    isplitl [H1] <;> iassumption
  iintro ⟨G7, H1, H2⟩
  ihave G7 := (gSlot_part m ρ c 7 _) $$ G7
  -- the reduction
  ihave G1 := (gSlot_acc0 m ρ c _) $$ G1
  ihave Hre := (recs_r m ρ K c 0 (by decide)) $$ HR
  icases Hre with ⟨-, #E0⟩
  ihave Hre := (recs_r m ρ K c 1 (by decide)) $$ HR
  icases Hre with ⟨-, #E1⟩
  iapply (rs_hop m ρ K c _ (dev_r (k0_dev10_eq c)) 0 (by decide) 0 _ rfl _ (by decide) (by decide) rfl rfl rfl rfl) $$ HE G1 B0 E0 HO R0
  iintro ⟨G1, S0, #Q0, HO, Z14, Z21⟩
  iapply (add_slots c 2 _ 0 _ (partV m ρ c 2) (accV m ρ 0 (prv c)) _ cast_sum) $$ G2 S0
  iintro ⟨G2, S0⟩
  ihave G2 := (gSlot_acc m ρ c 0 _) $$ G2
  iapply (free_slot m ρ K c _ (dev_l (k0_dev11_eq c)) 0 _ 0 (by decide) (by decide) _ _ rfl rfl) $$ HE Q0 S0 HO T00
  iintro HO
  iapply (rs_hop m ρ K c _ (dev_r (k0_dev12_eq c)) 1 (by decide) 1 _ rfl _ (by decide) (by decide) rfl rfl rfl rfl) $$ HE G2 B1 E1 HO R1
  iintro ⟨G2, S1, #Q1, HO, Z15, Z22⟩
  iapply (add_slots c 3 _ 1 _ (partV m ρ c 3) (accV m ρ 1 (prv c)) _ cast_sum) $$ G3 S1
  iintro ⟨G3, S1⟩
  ihave G3 := (gSlot_acc m ρ c 1 _) $$ G3
  iapply (free_slot m ρ K c _ (dev_l (k0_dev13_eq c)) 1 _ 0 (by decide) (by decide) _ _ rfl rfl) $$ HE Q1 S1 HO T10
  iintro HO
  iapply (wait_free m ρ K c 0 (by decide) 0 (by decide) _ 14 (by decide) (by decide) rfl rfl) $$ HE C00 A0 HO
  iintro ⟨HO, A0, #E0, B0⟩
  ihave B0 := (Entails.of_eq (pay_p m ρ c 0 (by decide) 0 (by decide) false)) $$ B0
  iapply (rs_hop m ρ K c _ (dev_r (k0_dev14_eq c)) 2 (by decide) 0 _ rfl _ (by decide) (by decide) rfl rfl rfl rfl) $$ HE G3 B0 E0 HO R2
  iintro ⟨G3, S0, #Q0, HO, Z16, Z23⟩
  iapply (add_slots c 4 _ 0 _ (partV m ρ c 4) (accV m ρ 2 (prv c)) _ cast_sum) $$ G4 S0
  iintro ⟨G4, S0⟩
  ihave G4 := (gSlot_acc m ρ c 2 _) $$ G4
  iapply (free_slot m ρ K c _ (dev_l (k0_dev15_eq c)) 0 _ 1 (by decide) (by decide) _ _ rfl rfl) $$ HE Q0 S0 HO T01
  iintro HO
  iapply (wait_free m ρ K c 1 (by decide) 0 (by decide) _ 16 (by decide) (by decide) rfl rfl) $$ HE C10 A1 HO
  iintro ⟨HO, A1, #E1, B1⟩
  ihave B1 := (Entails.of_eq (pay_p m ρ c 1 (by decide) 0 (by decide) false)) $$ B1
  iapply (rs_hop m ρ K c _ (dev_r (k0_dev16_eq c)) 3 (by decide) 1 _ rfl _ (by decide) (by decide) rfl rfl rfl rfl) $$ HE G4 B1 E1 HO R3
  iintro ⟨G4, S1, #Q1, HO, Z17, Z24⟩
  iapply (add_slots c 5 _ 1 _ (partV m ρ c 5) (accV m ρ 3 (prv c)) _ cast_sum) $$ G5 S1
  iintro ⟨G5, S1⟩
  ihave G5 := (gSlot_acc m ρ c 3 _) $$ G5
  iapply (free_slot m ρ K c _ (dev_l (k0_dev17_eq c)) 1 _ 1 (by decide) (by decide) _ _ rfl rfl) $$ HE Q1 S1 HO T11
  iintro HO
  iapply (wait_free m ρ K c 0 (by decide) 1 (by decide) _ 18 (by decide) (by decide) rfl rfl) $$ HE C01 A0 HO
  iintro ⟨HO, A0, #E0, B0⟩
  ihave B0 := (Entails.of_eq (pay_p m ρ c 0 (by decide) 1 (by decide) false)) $$ B0
  iapply (rs_hop m ρ K c _ (dev_r (k0_dev18_eq c)) 4 (by decide) 0 _ rfl _ (by decide) (by decide) rfl rfl rfl rfl) $$ HE G5 B0 E0 HO R4
  iintro ⟨G5, S0, #Q0, HO, Z18, Z25⟩
  iapply (add_slots c 6 _ 0 _ (partV m ρ c 6) (accV m ρ 4 (prv c)) (fun v w => k0_pay16 (k0_pay15 v) w) cast_sum) $$ G6 S0
  iintro ⟨G6, S0⟩
  ihave G6 := (gSlot_acc m ρ c 4 _) $$ G6
  iapply (free_slot m ρ K c _ (dev_l (k0_dev19_eq c)) 0 _ 2 (by decide) (by decide) _ _ rfl rfl) $$ HE Q0 S0 HO T02
  iintro HO
  iapply (wait_free m ρ K c 1 (by decide) 1 (by decide) _ 20 (by decide) (by decide) rfl rfl) $$ HE C11 A1 HO
  iintro ⟨HO, A1, #E1, B1⟩
  ihave B1 := (Entails.of_eq (pay_p m ρ c 1 (by decide) 1 (by decide) false)) $$ B1
  iapply (rs_hop m ρ K c _ (dev_r (k0_dev20_eq c)) 5 (by decide) 1 _ rfl _ (by decide) (by decide) rfl rfl rfl rfl) $$ HE G6 B1 E1 HO R5
  iintro ⟨G6, S1, #Q1, HO, Z19, Z26⟩
  iapply (add_slots c 7 _ 1 _ (partV m ρ c 7) (accV m ρ 5 (prv c)) _ cast_sum) $$ G7 S1
  iintro ⟨G7, S1⟩
  ihave G7 := (gSlot_acc m ρ c 5 _) $$ G7
  iapply (free_last m ρ K c _ (dev_l (k0_dev21_eq c)) _ rfl rfl) $$ HE Q1 HO T12
  iintro HO
  iapply (wait_free m ρ K c 0 (by decide) 2 (by decide) _ 22 (by decide) (by decide) rfl rfl) $$ HE C02 A0 HO
  iintro ⟨HO, A0, #E0, B0⟩
  ihave B0 := (Entails.of_eq (pay_p m ρ c 0 (by decide) 2 (by decide) false)) $$ B0
  iapply (rs_hop m ρ K c _ (dev_r (k0_dev22_eq c)) 6 (by decide) 0 _ rfl _ (by decide) (by decide) rfl rfl rfl rfl) $$ HE G7 B0 E0 HO R6
  iintro ⟨G7, S0, #Q0, HO, Z20, Z27⟩
  -- the result
  iapply (load_g c 0 _ (partV m ρ c 0)) $$ G0
  iintro %v %hv G0
  iapply (load_a c 0 _ (accV m ρ 6 (prv c))) $$ S0
  iintro %w %hw S0
  iapply (wp_load 𝒱₀ (c : Thread nD τ) none Set.univ (m := oM) (Finset.subset_univ _)) $$ H3
  iintro H3
  iapply (wp_store 𝒱₀ (c : Thread nD τ) none Set.univ (m := oM) (r := xR) (Mk := Finset.univ) (Finset.subset_univ _)) $$ H3
  iintro H3
  rw [show (oM.access xR).write (Elt F) g3 (k0_pay1 (k0_pay18 v) w) Finset.univ = outV m ρ c from
    (Memref.write_access_unit_zero_univ (Elt F) cc0_stg3_0 hz2 _ g3 _).trans (by unfold k0_pay1 k0_pay18 outV outB; rw [hv, hw])]
  -- the last waits and signals
  iapply (wait_free m ρ K c 1 (by decide) 2 (by decide) _ 24 (by decide) (by decide) rfl rfl) $$ HE C12 A1 HO
  iintro ⟨HO, A1, -, -⟩
  iapply (signal_b m ρ K c _ false (dev_l (k0_dev23_eq c)) 2 (by decide) (by decide) true _ iprop(emp)
    (by rw [dev_l (k0_dev23_eq c), pay_q]) rfl rfl) $$ HE [] HO [Tl2]
  · iempintro
  · rw [dev_l (k0_dev23_eq c)]; iexact Tl2
  iintro HO
  iapply (signal_b m ρ K c _ true (dev_r (k0_dev24_eq c)) 2 (by decide) (by decide) false _ iprop(emp)
    (by rw [dev_r (k0_dev24_eq c), pay_q]) rfl rfl) $$ HE [] HO [Tr2]
  · iempintro
  · rw [dev_r (k0_dev24_eq c)]; iexact Tr2
  iintro HO
  iapply (wait_both m ρ K c 2 _ (by decide) _ 200 (by decide) (by decide) rfl rfl) $$ HE C2 A2 HO
  iintro ⟨HO, Z30, -, -⟩
  imod (close_p m ρ K c 0 (by decide)) $$ [A0] with Z28
  · isplitr; · iexact HR
    iexact A0
  imod (close_p m ρ K c 1 (by decide)) $$ [A1] with Z29
  · isplitr; · iexact HR
    iexact A1
  rw [wp_ret]; imodintro
  iapply Hk
  isplitl [G0 G1 G2 G3 G4 G5 G6 G7 S0 S1]
  · isplitl [G0 G1 G2 G3 G4 G5 G6 G7]
    · isplitl [G0]; · iapply (gAny_of c 0 _ _); iexact G0
      isplitl [G1]; · iapply (gAny_of c 1 _ _); iexact G1
      isplitl [G2]; · iapply (gAny_of c 2 _ _); iexact G2
      isplitl [G3]; · iapply (gAny_of c 3 _ _); iexact G3
      isplitl [G4]; · iapply (gAny_of c 4 _ _); iexact G4
      isplitl [G5]; · iapply (gAny_of c 5 _ _); iexact G5
      isplitl [G6]; · iapply (gAny_of c 6 _ _); iexact G6
      iapply (gAny_of c 7 _ _); iexact G7
    · isplitl [S0]; · iapply (aAny_of c 0 _ _); iexact S0
      iapply (aAny_of c 1 _ _); iexact S1
  isplitl [Z0 Z1 Z2 Z3 Z4 Z5 Z6 Z7 Z8 Z9 Z10 Z11 Z12 Z13 Z14 Z15 Z16 Z17 Z18 Z19 Z20 Z21 Z22 Z23 Z24 Z25 Z26 Z27 Z28 Z29 Z30]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    isplitl [Z13]; · iexact Z13
    isplitl [Z14]; · iexact Z14
    isplitl [Z15]; · iexact Z15
    isplitl [Z16]; · iexact Z16
    isplitl [Z17]; · iexact Z17
    isplitl [Z18]; · iexact Z18
    isplitl [Z19]; · iexact Z19
    isplitl [Z20]; · iexact Z20
    isplitl [Z21]; · iexact Z21
    isplitl [Z22]; · iexact Z22
    isplitl [Z23]; · iexact Z23
    isplitl [Z24]; · iexact Z24
    isplitl [Z25]; · iexact Z25
    isplitl [Z26]; · iexact Z26
    isplitl [Z27]; · iexact Z27
    isplitl [Z28]; · iexact Z28
    isplitl [Z29]; · iexact Z29
    iexact Z30
  isplitl [Zb]; · iexact Zb
  isplitl [HO]; · iexact HO
  isplitl [Hx]; · iexact Hx
  isplitl [H1]; · iexact H1
  isplitl [H2]; · iexact H2
  iexact H3

end Cert.RingProof

end
-- ==== Proof.Deal.lean ====
/-
How the launch's ghost state is dealt to the eight devices: every cell's invariant under some name, every device its own positions, the
tokens of the payments it makes, and the credits for the payments made to it.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Ring

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## Cells and tokens -/

/-- The cell of a device and a number. -/
abbrev cellAt (ck : Dev nD × Fin 32) : GSem nD τ sig := kcell ck.1 ck.2.val

theorem kcell_inj {c c' : Dev nD} {k k' : ℕ} (hk : k < 32) (hk' : k' < 32) (h : kcell c k = kcell c' k') : c = c' ∧ k = k' := by
  refine ⟨congrArg (fun g : GSem nD τ sig => g.1.1) h, ?_⟩
  rw [← code_sl k hk, ← code_sl k' hk']
  exact congrArg (fun g : GSem nD τ sig => code g.2) h

theorem cellAt_injective : Function.Injective cellAt := by
  rintro ⟨c, k⟩ ⟨c', k'⟩ h
  obtain ⟨rfl, hk⟩ := kcell_inj k.isLt k'.isLt h
  obtain rfl := Fin.ext hk
  rfl
def ringCells : Finset (GSem nD τ sig) := Finset.univ.map ⟨cellAt, cellAt_injective⟩

/-- The duties of a device's cells, in one numbering: the cell's number, the round, the duty. -/
def tk (j : Fin 38) : ℕ × ℕ × Bool :=
  if j.val < 28 then (j.val, 0, false) else if j.val < 31 then (28, j.val - 28, false) else if j.val < 34 then (29, j.val - 31, false)
  else if j.val = 34 then (30, 0, false) else if j.val = 35 then (30, 0, true) else if j.val = 36 then (31, 0, false) else (31, 0, true)
theorem tk_lt (j : Fin 38) : (tk j).1 < 32 := by revert j; decide
theorem tk_injective : Function.Injective tk := by
  have h : ∀ j j' : Fin 38, tk j = tk j' → j = j' := by decide +kernel
  exact fun j j' => h j j'

/-- Who pays a duty: the device whose right neighbour, left neighbour or self the cell's device is. -/
def toRight (j : Fin 38) : Bool := (7 ≤ j.val && j.val < 14) || (21 ≤ j.val && j.val < 28) || j.val == 34 || j.val == 36
def toLeft (j : Fin 38) : Bool := (28 ≤ j.val && j.val < 34) || j.val == 35 || j.val == 37
def payee (j : Fin 38) : Dev nD ≃ Dev nD := if toRight j then ring else if toLeft j then ring.symm else Equiv.refl _

abbrev tokOf (cj : Dev nD × Fin 38) : GSem nD τ sig × ℕ × Bool := (kcell cj.1 (tk cj.2).1, (tk cj.2).2)
theorem tokOf_injective : Function.Injective tokOf := by
  rintro ⟨c, j⟩ ⟨c', j'⟩ h
  obtain ⟨rfl, hk⟩ := kcell_inj (tk_lt j) (tk_lt j') (congrArg Prod.fst h)
  have h2 : (tk j).2 = (tk j').2 := congrArg (fun x : GSem nD τ sig × ℕ × Bool => x.2) h
  obtain rfl := tk_injective (Prod.ext hk h2)
  rfl
def ringToks : Finset (GSem nD τ sig × ℕ × Bool) := Finset.univ.map ⟨tokOf, tokOf_injective⟩

/-- The token of duty `j` of device `c`'s cells. -/
def tok (c : Dev nD) (j : Fin 38) : sProp 𝕄 := dutyTok ER (kcell c (tk j).1) (tk j).2.1 (tk j).2.2
/-- The tokens of the duties that device `c` pays. -/
def payToks (c : Dev nD) : sProp 𝕄 := bigSep Finset.univ fun j => tok (payee j c) j

/-- Dealt by cell or dealt by payer, the tokens are the same. -/
theorem toks_around : (bigSep Finset.univ fun c : Dev nD => bigSep Finset.univ fun j => (tok c j : sProp 𝕄)) = bigSep Finset.univ payToks := by
  let e : Dev nD × Fin 38 ≃ Dev nD × Fin 38 :=
    ⟨fun cj => (payee cj.2 cj.1, cj.2), fun cj => ((payee cj.2).symm cj.1, cj.2), fun cj => by simp, fun cj => by simp⟩
  unfold payToks
  rw [← bigSep_univ_prod (fun cj : Dev nD × Fin 38 => (tok cj.1 cj.2 : sProp 𝕄)), bigSep_univ_equiv e, bigSep_univ_prod]
  rfl

/-! ## The launch element -/

def u₀ : UU := (initOf (Pipeline.cells cfgs cellOf_inj) (Pipeline.launchToks cfgs cellOf_inj), initOf ringCells ringToks)

/-- What the launch element deals device `c`. -/
def G (c : Dev nD) : sProp 𝕄 :=
  iprop((bigSep Finset.univ fun k : Fin 32 => roundState ER (Rd m ρ) (cellAt (c, k)) 0)
    ∗ ((bigSep Finset.univ fun k : Fin 32 => atPos ER (cellAt (c, k)) 0 ∅ 0) ∗ (bigSep Finset.univ fun k : Fin 32 => reached ER (cellAt (c, k)) 0))
    ∗ bigSep Finset.univ fun j => tok c j)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 32 => Φ (cellAt (c, k)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun j => tok c j := by
    unfold ringToks; rw [bigSep_map, bigSep_univ_prod]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants -/

/-- The kernel's own semaphores, in the cells' numbering: all but the barrier's. -/
abbrev osem : Fin 31 → SemLoc sig := fun k => sl k.val
theorem ownSemFacts : Pipeline.OwnSemFacts cfg0.spec osem := by decide +kernel

theorem unscopedSems0_eq (c : Dev nD) : (unscopedSems0 c : sProp 𝕄) = semVal (kcell c 31) 0 := by
  unfold unscopedSems0; rw [bigSep_eq_bigSepL_of_eq [SemLoc.reg (rsem 3 (by decide))] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Fin 32 => semVal (cellAt (c, k)) 0 : sProp 𝕄) := by
  rw [unscopedSems0_eq, bigSep_univ_at _ (Fin.last 31), show (Finset.univ : Finset (Fin 32)).erase (Fin.last 31) = Finset.univ.map Fin.castSuccEmb from by decide,
    bigSep_map]
  unfold Pipeline.ownSems0
  iintro ⟨H1, H2⟩
  isplitl [H2]; · iexact H2
  iexact H1

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (cellAt (c, k))))
          ∗ ((bigSep Finset.univ fun k : Fin 32 => atPos ER (cellAt (c, k)) 0 ∅ 0) ∗ (bigSep Finset.univ fun k : Fin 32 => reached ER (cellAt (c, k)) 0))
          ∗ bigSep Finset.univ fun j => tok c j) := by
  unfold G
  iintro ⟨Hos, Hus, Hst, Hat, Htok⟩
  ihave Hv := (sems0_eq (F := F) c) $$ [Hos Hus]
  · isplitl [Hos] <;> iassumption
  imod (show iprop((bigSep Finset.univ fun k : Fin 32 => semVal (cellAt (c, k)) 0) ∗ bigSep Finset.univ fun k : Fin 32 => roundState ER (Rd m ρ) (cellAt (c, k)) 0)
      ⊢ (|={Set.univ}=> bigSep Finset.univ fun k => iprop(∃ κ : ℕ, cellInv ER (Rd m ρ) κ (cellAt (c, k))) : sProp 𝕄) from by
        rw [← bigSep_sep']
        exact (bigSep_mono fun k _ => (Rounds.body_intro ER (Rd m ρ) (cellAt (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions and the tokens of the duties it pays. -/
def linear (c : Dev nD) : sProp 𝕄 := iprop((bigSep Finset.univ fun k : Fin 32 => atPos ER (cellAt (c, k)) 0 ∅ 0) ∗ payToks c)
/-- With the cells' invariants, at some names. -/
def G' (c : Dev nD) : sProp 𝕄 := iprop(∃ K, recs m ρ K ∗ linear c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (cellAt (c, k))))
          ∗ ((bigSep Finset.univ fun k : Fin 32 => atPos ER (cellAt (c, k)) 0 ∅ 0) ∗ (bigSep Finset.univ fun k : Fin 32 => reached ER (cellAt (c, k)) 0))
          ∗ bigSep Finset.univ fun j => tok c j) : sProp 𝕄)
      ⊢ bigSep Finset.univ (G' m ρ) := by
  rw [bigSep_sep', bigSep_sep', bigSep_sep', ← bigSep_univ_prod (fun ck : Dev nD × Fin 32 => iprop(∃ κ : ℕ, cellInv ER (Rd m ρ) κ (cellAt ck))),
    ← bigSep_univ_prod (fun ck : Dev nD × Fin 32 => (reached ER (cellAt ck) 0 : sProp 𝕄)), toks_around]
  iintro ⟨HI, ⟨Hat, #HR⟩, Htok⟩
  ihave HK := (BI.bigSep_exists_pi Finset.univ (fun (ck : Dev nD × Fin 32) (κ : ℕ) => (cellInv ER (Rd m ρ) κ (cellAt ck) : sProp 𝕄))) $$ HI
  icases HK with ⟨%K, #HI⟩
  iapply (with_persistent (R := recs m ρ K) (Φ := linear) fun c _ => by unfold G'; iintro ⟨#H1, H2⟩; iexists K; isplitr; · iexact H1
                                                                        iexact H2)
  isplitr
  · unfold recs; rw [bigSep_sep']
    isplitl; · iexact HI
    iexact HR
  · unfold linear; rw [bigSep_sep']
    isplitl [Hat]; · iexact Hat
    iexact Htok

theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

/-- The credits for the payments `l` made to device `c`. -/
def credsOf (c : Dev nD) (l : List Pay) : sProp 𝕄 := l.foldr (fun p P => iprop(cred (tallyAt (kcell c p.kind) p.round p.amt) ∗ P)) iprop(emp)

/-- Every device owing `l` to its neighbours, each is dealt the credits for `l`. -/
theorem creds (l : List Pay) (c : Dev nD) : (Pipeline.launchCred (fun d => owed d l) c : sProp 𝕄) ⊢ credsOf c l := by
  induction l with
  | nil => exact Entails.of_eq (Pipeline.launchCred_zero c)
  | cons p l ih =>
    show Pipeline.launchCred (fun d => owed d l + tallyAt (p.cell d) p.round p.amt) c ⊢ iprop(cred (tallyAt (kcell c p.kind) p.round p.amt) ∗ credsOf c l)
    rw [Pipeline.launchCred_add]
    refine BI.sep_comm.trans (BI.sep_mono ?_ ih)
    obtain ⟨r, k, i⟩ := p
    cases r
    · exact Pipeline.launchCred_tallyAt (sl k) prv nxt prv_nxt nxt_prv i _ c
    · exact Pipeline.launchCred_tallyAt (sl k) nxt prv nxt_prv prv_nxt i _ c
/-! ## The assembly of one device's ghost state -/

theorem creds_eq (c : Dev nD) : (credsOf c pays : sProp 𝕄) = iprop(cred (tallyAt (rcell c 3 (by decide)) 0 1) ∗ cred (tallyAt (rcell c 3 (by decide)) 0 1) ∗ cred (tallyAt (dcell c 7 (by decide)) 0 N) ∗ cred (tallyAt (dcell c 8 (by decide)) 0 N) ∗ cred (tallyAt (dcell c 9 (by decide)) 0 N) ∗ cred (tallyAt (dcell c 10 (by decide)) 0 N) ∗ cred (tallyAt (dcell c 11 (by decide)) 0 N) ∗ cred (tallyAt (dcell c 12 (by decide)) 0 N) ∗ cred (tallyAt (dcell c 13 (by decide)) 0 N) ∗ cred (tallyAt (dcell c 21 (by decide)) 0 N) ∗ cred (tallyAt (rcell c 0 (by decide)) 0 1) ∗ cred (tallyAt (dcell c 22 (by decide)) 0 N) ∗ cred (tallyAt (rcell c 1 (by decide)) 0 1) ∗ cred (tallyAt (dcell c 23 (by decide)) 0 N) ∗ cred (tallyAt (rcell c 0 (by decide)) 1 1) ∗ cred (tallyAt (dcell c 24 (by decide)) 0 N) ∗ cred (tallyAt (rcell c 1 (by decide)) 1 1) ∗ cred (tallyAt (dcell c 25 (by decide)) 0 N) ∗ cred (tallyAt (rcell c 0 (by decide)) 2 1) ∗ cred (tallyAt (dcell c 26 (by decide)) 0 N) ∗ cred (tallyAt (rcell c 1 (by decide)) 2 1) ∗ cred (tallyAt (dcell c 27 (by decide)) 0 N) ∗ cred (tallyAt (rcell c 2 (by decide)) 0 1) ∗ cred (tallyAt (rcell c 2 (by decide)) 0 1) ∗ emp) := rfl

theorem sep_regroup (P Q R : sProp 𝕄) : iprop((P ∗ Q) ∗ R) = iprop(P ∗ Q ∗ R) := BI.Entails.antisymm BI.sep_assoc BI.sep_assoc'

/-- The thirty-two numbers in groups of seven, and the last four one by one; -/
theorem fin32_eq (Φ : ℕ → sProp 𝕄) : (bigSep Finset.univ fun k : Fin 32 => Φ k.val)
    = iprop((bigSep Finset.univ fun h : Fin 7 => Φ h.val) ∗ (bigSep Finset.univ fun h : Fin 7 => Φ (7 + h.val)) ∗ (bigSep Finset.univ fun h : Fin 7 => Φ (14 + h.val))
      ∗ (bigSep Finset.univ fun h : Fin 7 => Φ (21 + h.val)) ∗ Φ 28 ∗ Φ 29 ∗ Φ 30 ∗ Φ 31) := by
  rw [bigSep_univ_eq_bigSepL [0, 1, 2, 3, 4, 5, 6, 7, 8, 9, 10, 11, 12, 13, 14, 15, 16, 17, 18, 19, 20, 21, 22, 23, 24, 25, 26, 27, 28, 29, 30, 31] (by decide) (by decide), fin7_eq, fin7_eq, fin7_eq, fin7_eq]
  simp only [sep_regroup]
  rfl
/-- the thirty-eight duties likewise. -/
theorem fin38_eq (Φ : Fin 38 → sProp 𝕄) : bigSep Finset.univ Φ
    = iprop((bigSep Finset.univ fun h : Fin 7 => Φ ⟨h.val, by omega⟩) ∗ (bigSep Finset.univ fun h : Fin 7 => Φ ⟨7 + h.val, by omega⟩) ∗ (bigSep Finset.univ fun h : Fin 7 => Φ ⟨14 + h.val, by omega⟩)
      ∗ (bigSep Finset.univ fun h : Fin 7 => Φ ⟨21 + h.val, by omega⟩) ∗ Φ 28 ∗ Φ 29 ∗ Φ 30 ∗ Φ 31 ∗ Φ 32 ∗ Φ 33 ∗ Φ 34 ∗ Φ 35 ∗ Φ 36 ∗ Φ 37) := by
  rw [bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37] (by decide) (by decide), fin7_eq, fin7_eq, fin7_eq, fin7_eq]
  simp only [sep_regroup]
  rfl

theorem tk_copy (k : ℕ) (hk : k < 28) : tk ⟨k, by omega⟩ = (k, 0, false) := if_pos hk
theorem payee_right (j : Fin 38) (h : toRight j = true) (c : Dev nD) : payee j c = nxt c := by unfold payee; rw [if_pos h]; rfl
theorem payee_left (j : Fin 38) (h : toRight j = false) (h' : toLeft j = true) (c : Dev nD) : payee j c = prv c := by
  unfold payee; rw [if_neg (by rw [h]; decide), if_pos h']; rfl
theorem payee_self (j : Fin 38) (h : toRight j = false) (h' : toLeft j = false) (c : Dev nD) : payee j c = c := by
  unfold payee; rw [if_neg (by rw [h]; decide), if_neg (by rw [h']; decide)]; rfl

/-- The token of a copy that credits the device itself, or its right neighbour; -/
theorem tok_own (c : Dev nD) (k : ℕ) (hk : k < 28) (h : toRight ⟨k, by omega⟩ = false) (h' : toLeft ⟨k, by omega⟩ = false) :
    (tok (payee ⟨k, by omega⟩ c) ⟨k, by omega⟩ : sProp 𝕄) = dutyTok ER (dcell c k hk) 0 false := by
  rw [payee_self _ h h']; unfold tok; rw [tk_copy k hk, kcell_d c k hk]
theorem tok_next (c : Dev nD) (k : ℕ) (hk : k < 28) (h : toRight ⟨k, by omega⟩ = true) :
    (tok (payee ⟨k, by omega⟩ c) ⟨k, by omega⟩ : sProp 𝕄) = dutyTok ER (dcell (nxt c) k hk) 0 false := by
  rw [payee_right _ h]; unfold tok; rw [tk_copy k hk, kcell_d (nxt c) k hk]
/-- of a signal to the right neighbour, or to the left one. -/
theorem tok_at_right (c : Dev nD) (j : Fin 38) (i r : ℕ) (hi : i < 4) (d : Bool) (hj : tk j = (28 + i, r, d)) (h : toRight j = true) :
    (tok (payee j c) j : sProp 𝕄) = dutyTok ER (rcell (nxt c) i hi) r d := by
  rw [payee_right _ h]; unfold tok; rw [hj, kcell_r (nxt c) i hi]
theorem tok_at_left (c : Dev nD) (j : Fin 38) (i r : ℕ) (hi : i < 4) (d : Bool) (hj : tk j = (28 + i, r, d)) (h : toRight j = false)
    (h' : toLeft j = true) : (tok (payee j c) j : sProp 𝕄) = dutyTok ER (rcell (prv c) i hi) r d := by
  rw [payee_left _ h h']; unfold tok; rw [hj, kcell_r (prv c) i hi]

theorem payToks_eq (c : Dev nD) : (payToks c : sProp 𝕄)
    = iprop((bigSep Finset.univ fun h : Fin 7 => dutyTok ER (dcell c h.val (by omega)) 0 false) ∗ (bigSep Finset.univ fun h : Fin 7 => dutyTok ER (dcell (nxt c) (7 + h.val) (by omega)) 0 false)
      ∗ (bigSep Finset.univ fun h : Fin 7 => dutyTok ER (dcell c (14 + h.val) (by omega)) 0 false) ∗ (bigSep Finset.univ fun h : Fin 7 => dutyTok ER (dcell (nxt c) (21 + h.val) (by omega)) 0 false)
      ∗ dutyTok ER (rcell (prv c) 0 (by decide)) 0 false ∗ dutyTok ER (rcell (prv c) 0 (by decide)) 1 false ∗ dutyTok ER (rcell (prv c) 0 (by decide)) 2 false
      ∗ dutyTok ER (rcell (prv c) 1 (by decide)) 0 false ∗ dutyTok ER (rcell (prv c) 1 (by decide)) 1 false ∗ dutyTok ER (rcell (prv c) 1 (by decide)) 2 false
      ∗ dutyTok ER (rcell (nxt c) 2 (by decide)) 0 false ∗ dutyTok ER (rcell (prv c) 2 (by decide)) 0 true
      ∗ dutyTok ER (rcell (nxt c) 3 (by decide)) 0 false ∗ dutyTok ER (rcell (prv c) 3 (by decide)) 0 true) := by
  unfold payToks
  rw [fin38_eq]
  rw [tok_at_left c 28 0 0 (by decide) false (by decide) (by decide) (by decide), tok_at_left c 29 0 1 (by decide) false (by decide) (by decide) (by decide),
    tok_at_left c 30 0 2 (by decide) false (by decide) (by decide) (by decide), tok_at_left c 31 1 0 (by decide) false (by decide) (by decide) (by decide),
    tok_at_left c 32 1 1 (by decide) false (by decide) (by decide) (by decide), tok_at_left c 33 1 2 (by decide) false (by decide) (by decide) (by decide),
    tok_at_right c 34 2 0 (by decide) false (by decide) (by decide), tok_at_left c 35 2 0 (by decide) true (by decide) (by decide) (by decide),
    tok_at_right c 36 3 0 (by decide) false (by decide) (by decide), tok_at_left c 37 3 0 (by decide) true (by decide) (by decide) (by decide)]
  have e0 : (bigSep Finset.univ fun h : Fin 7 => (tok (payee ⟨h.val, by omega⟩ c) ⟨h.val, by omega⟩ : sProp 𝕄)) = (bigSep Finset.univ fun h : Fin 7 => (dutyTok ER (dcell (c) (h.val) (by omega)) 0 false : sProp 𝕄)) :=
    bigSep_congr fun h _ => tok_own c (h.val) (by omega) (by revert h; decide) (by revert h; decide)
  have e1 : (bigSep Finset.univ fun h : Fin 7 => (tok (payee ⟨7 + h.val, by omega⟩ c) ⟨7 + h.val, by omega⟩ : sProp 𝕄)) = (bigSep Finset.univ fun h : Fin 7 => (dutyTok ER (dcell (nxt c) (7 + h.val) (by omega)) 0 false : sProp 𝕄)) :=
    bigSep_congr fun h _ => tok_next c (7 + h.val) (by omega) (by revert h; decide)
  have e2 : (bigSep Finset.univ fun h : Fin 7 => (tok (payee ⟨14 + h.val, by omega⟩ c) ⟨14 + h.val, by omega⟩ : sProp 𝕄)) = (bigSep Finset.univ fun h : Fin 7 => (dutyTok ER (dcell (c) (14 + h.val) (by omega)) 0 false : sProp 𝕄)) :=
    bigSep_congr fun h _ => tok_own c (14 + h.val) (by omega) (by revert h; decide) (by revert h; decide)
  have e3 : (bigSep Finset.univ fun h : Fin 7 => (tok (payee ⟨21 + h.val, by omega⟩ c) ⟨21 + h.val, by omega⟩ : sProp 𝕄)) = (bigSep Finset.univ fun h : Fin 7 => (dutyTok ER (dcell (nxt c) (21 + h.val) (by omega)) 0 false : sProp 𝕄)) :=
    bigSep_congr fun h _ => tok_next c (21 + h.val) (by omega) (by revert h; decide)
  rw [e0, e1, e2, e3]

theorem atPoss_eq (c : Dev nD) : (bigSep Finset.univ fun k : Fin 32 => (atPos ER (cellAt (c, k)) 0 ∅ 0 : sProp 𝕄))
    = iprop((bigSep Finset.univ fun h : Fin 7 => atPos ER (dcell c h.val (by omega)) 0 ∅ 0) ∗ (bigSep Finset.univ fun h : Fin 7 => atPos ER (dcell c (7 + h.val) (by omega)) 0 ∅ 0)
      ∗ (bigSep Finset.univ fun h : Fin 7 => atPos ER (dcell c (14 + h.val) (by omega)) 0 ∅ 0) ∗ (bigSep Finset.univ fun h : Fin 7 => atPos ER (dcell c (21 + h.val) (by omega)) 0 ∅ 0)
      ∗ atPos ER (rcell c 0 (by decide)) 0 ∅ 0 ∗ atPos ER (rcell c 1 (by decide)) 0 ∅ 0 ∗ atPos ER (rcell c 2 (by decide)) 0 ∅ 0 ∗ atPos ER (rcell c 3 (by decide)) 0 ∅ 0) := by
  rw [fin32_eq (fun k => atPos ER (kcell c k) 0 ∅ 0), kcell_r c 0 (by decide), kcell_r c 1 (by decide), kcell_r c 2 (by decide), kcell_r c 3 (by decide)]
  have e0 : (bigSep Finset.univ fun h : Fin 7 => (atPos ER (kcell c h.val) 0 ∅ 0 : sProp 𝕄)) = (bigSep Finset.univ fun h : Fin 7 => (atPos ER (dcell c h.val (by omega)) 0 ∅ 0 : sProp 𝕄)) :=
    bigSep_congr fun h _ => by rw [kcell_d c h.val (by omega)]
  have e (o : ℕ) (ho : ∀ h : Fin 7, o + h.val < 28) :
      (bigSep Finset.univ fun h : Fin 7 => (atPos ER (kcell c (o + h.val)) 0 ∅ 0 : sProp 𝕄)) = (bigSep Finset.univ fun h : Fin 7 => (atPos ER (dcell c (o + h.val) (ho h)) 0 ∅ 0 : sProp 𝕄)) :=
    bigSep_congr fun h _ => by rw [kcell_d c (o + h.val) (ho h)]
  rw [e0, e 7 fun h => by omega, e 14 fun h => by omega, e 21 fun h => by omega]

/-- The ghost state of the hops in its five kinds. -/
theorem hops_eq (c : Dev nD) (a b : Fin 7 → ℕ) (ha : ∀ h, a h < 28) (hb : ∀ h, b h < 28) :
    (bigSep Finset.univ fun h : Fin 7 => (hopPk c (a h) (b h) (ha h) (hb h) : sProp 𝕄))
      = iprop((bigSep Finset.univ fun h : Fin 7 => atPos ER (dcell c (a h) (ha h)) 0 ∅ 0) ∗ (bigSep Finset.univ fun h : Fin 7 => atPos ER (dcell c (b h) (hb h)) 0 ∅ 0)
        ∗ (bigSep Finset.univ fun h : Fin 7 => dutyTok ER (dcell c (a h) (ha h)) 0 false) ∗ (bigSep Finset.univ fun h : Fin 7 => dutyTok ER (dcell (nxt c) (b h) (hb h)) 0 false)
        ∗ (bigSep Finset.univ fun h : Fin 7 => cred (tallyAt (dcell c (b h) (hb h)) 0 N))) := by
  unfold hopPk
  rw [bigSep_sep', bigSep_sep', bigSep_sep', bigSep_sep']

theorem two_creds (g : GSem nD τ sig) : iprop(cred (tallyAt g 0 1) ∗ cred (tallyAt g 0 1)) ⊢ (cred (tallyAt g 0 2) : sProp 𝕄) := by
  rw [show (tallyAt g 0 2 : CellTallies nD τ sig ℕ) = tallyAt g 0 1 + tallyAt g 0 1 from (tallyAt_add g 0 1 1).symm]
  exact (cred_add _ _).2

/-- Positions, tokens and credits make the ghost state that a device's body starts from. -/
theorem ghost_intro (c : Dev nD) : iprop(linear c ∗ credsOf c pays) ⊢ (ghost c : sProp 𝕄) := by
  unfold linear ghost permPk bothPk
  rw [payToks_eq, atPoss_eq, creds_eq, hops_eq c (fun h => h.val) (fun h => 7 + h.val) (fun h => by omega) (fun h => by omega),
    hops_eq c (fun h => 14 + h.val) (fun h => 21 + h.val) (fun h => by omega) (fun h => by omega)]
  iintro ⟨⟨⟨A0, A7, A14, A21, P0, P1, P2, P3⟩, ⟨T0, T7, T14, T21, U00, U01, U02, U10, U11, U12, V2n, V2p, V3n, V3p⟩⟩, C31_0, C31_0b, C7_0, C8_0, C9_0, C10_0, C11_0, C12_0, C13_0, C21_0, C28_0, C22_0, C29_0, C23_0, C28_1, C24_0, C29_1, C25_0, C28_2, C26_0, C29_2, C27_0, C30_0, C30_0b, -⟩
  ihave C30 := (two_creds (F := F) _) $$ [C30_0 C30_0b]
  · iframe
  ihave C31 := (two_creds (F := F) _) $$ [C31_0 C31_0b]
  · iframe
  rw [fin7_eq (fun h : Fin 7 => cred (tallyAt (dcell c (7 + h.val) (by omega)) 0 N)), fin7_eq (fun h : Fin 7 => cred (tallyAt (dcell c (21 + h.val) (by omega)) 0 N))]
  isplitl [A0 A7 T0 T7 C7_0 C8_0 C9_0 C10_0 C11_0 C12_0 C13_0]
  · iframe
  isplitl [A14 A21 T14 T21 C21_0 C22_0 C23_0 C24_0 C25_0 C26_0 C27_0]
  · iframe
  iframe

end Cert.RingProof

end
-- ==== Proof.Run.lean ====
/-
The launch: from any memory with every counter at zero, the eight devices' runs end with each device's result block in place, the
arguments as they were and every counter at zero again.
-/
module

public import proofs.«01_k».proof.Proof.Deal
public import proofs.«01_k».proof.Proof.Gen.KernelIdeal.Launch
public import proofs.«01_k».proof.Proof.Gen.KernelIdeal.Points
public import Idealize.ShloMosaic.Lib.Pipeline.Launch
public import Idealize.ShloMosaic.Lib.Pipeline.CollectiveSegs
public import Idealize.ShloMosaic.Lib.Ring

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The scratch buffers, whole and by slots -/

/-- The slots' elements. -/
def gSet (c : Dev nD) (s : Fin 8) : Finset (Idx ((c : Thread nD τ).loc cc0_scratch0)) := (gV s.val s.isLt).view.set
def aSet (c : Dev nD) (s : Fin 2) : Finset (Idx ((c : Thread nD τ).loc cc0_scratch1)) := (aV s.val s.isLt).view.set

theorem gSlots_disjoint (c : Dev nD) (s s' : Fin 8) (h : s ≠ s') : Disjoint (gSet c s) (gSet c s') :=
  Finset.disjoint_left.mpr fun i hi hi' => h (Fin.ext (((mem_gV s.val s.isLt i).mp hi).symm.trans ((mem_gV s'.val s'.isLt i).mp hi')))
theorem gSlots_cover (c : Dev nD) : (Finset.univ : Finset (Fin 8)).biUnion (gSet c) = Finset.univ :=
  Finset.eq_univ_of_forall fun i => Finset.mem_biUnion.mpr ⟨(i : S8x1024x1024.Idx) (0 : Fin 3), Finset.mem_univ _, (mem_gV _ _ i).mpr rfl⟩
theorem aSlots_disjoint (c : Dev nD) (s s' : Fin 2) (h : s ≠ s') : Disjoint (aSet c s) (aSet c s') :=
  Finset.disjoint_left.mpr fun i hi hi' => h (Fin.ext (((mem_aV s.val s.isLt i).mp hi).symm.trans ((mem_aV s'.val s'.isLt i).mp hi')))
theorem aSlots_cover (c : Dev nD) : (Finset.univ : Finset (Fin 2)).biUnion (aSet c) = Finset.univ :=
  Finset.eq_univ_of_forall fun i => Finset.mem_biUnion.mpr ⟨(i : S2x1024x1024.Idx) (0 : Fin 3), Finset.mem_univ _, (mem_aV _ _ i).mpr rfl⟩

/-- Both scratch buffers whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

theorem slots_of_scratch (c : Dev nD) : (scratch c : sProp 𝕄) ⊢ slots c := by
  unfold scratch slots
  refine BIClass.sep_mono ?_ ?_
  · iintro ⟨%f, H⟩
    ihave H := (Entails.of_eq (Ring.pointsTo_blocks (ℓ := (c : Thread nD τ).loc cc0_scratch0) (gSet c)
      (gSlots_disjoint c) (gSlots_cover c) f)) $$ H
    have hs : (bigSep Finset.univ fun s : Fin 8 => iprop(((c : Thread nD τ).loc cc0_scratch0) ↦[gSet c s]{fullShare} f) : sProp 𝕄)
        ⊢ bigSep Finset.univ fun s : Fin 8 => gAny c s.val s.isLt := bigSep_mono fun s _ =>
          show (((c : Thread nD τ).loc cc0_scratch0) ↦[gSet c s]{fullShare} f : sProp 𝕄) ⊢ gAny c s.val s.isLt from by
      unfold gAny gSlot gSet; iintro H; iexists _; iexists f; isplitr; · ipureintro; rfl
      iexact H
    iapply hs; iexact H
  · iintro ⟨%f, H⟩
    ihave H := (Entails.of_eq (Ring.pointsTo_blocks (ℓ := (c : Thread nD τ).loc cc0_scratch1) (aSet c)
      (aSlots_disjoint c) (aSlots_cover c) f)) $$ H
    have hs : (bigSep Finset.univ fun s : Fin 2 => iprop(((c : Thread nD τ).loc cc0_scratch1) ↦[aSet c s]{fullShare} f) : sProp 𝕄)
        ⊢ bigSep Finset.univ fun s : Fin 2 => aAny c s.val s.isLt := bigSep_mono fun s _ =>
          show (((c : Thread nD τ).loc cc0_scratch1) ↦[aSet c s]{fullShare} f : sProp 𝕄) ⊢ aAny c s.val s.isLt from by
      unfold aAny aSlot aSet; iintro H; iexists _; iexists f; isplitr; · ipureintro; rfl
      iexact H
    iapply hs; iexact H

include m in
theorem scratch_of_slots (c : Dev nD) : (slots c : sProp 𝕄) ⊢ scratch c := by
  unfold scratch slots
  refine BIClass.sep_mono ?_ ?_
  · refine BI.Entails.trans (bigSep_mono fun (s : Fin 8) _ => show gAny c s.val s.isLt ⊢ iprop(∃ f : Buf (Elt F) ((c : Thread nD τ).loc cc0_scratch0),
      ((c : Thread nD τ).loc cc0_scratch0) ↦[gSet c s]{fullShare} f) from by
        unfold gAny gSlot; iintro ⟨%V, %f, -, H⟩; iexists f; iexact H) ?_
    exact Ring.pointsTo_blocks_join_exists _ (gSlots_disjoint c) (gSlots_cover c) (m _)
  · refine BI.Entails.trans (bigSep_mono fun (s : Fin 2) _ => show aAny c s.val s.isLt ⊢ iprop(∃ f : Buf (Elt F) ((c : Thread nD τ).loc cc0_scratch1),
      ((c : Thread nD τ).loc cc0_scratch1) ↦[aSet c s]{fullShare} f) from by
        unfold aAny aSlot; iintro ⟨%V, %f, -, H⟩; iexists f; iexact H) ?_
    exact Ring.pointsTo_blocks_join_exists _ (aSlots_disjoint c) (aSlots_cover c) (m _)

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device's body starts from, the scratch buffers apart. -/
def start (c : Dev nD) : sProp 𝕄 := iprop(∃ K, env m ρ K ∗ ghost c)
def Φ₀ (c : Dev nD) : sProp 𝕄 := iprop(start m ρ c ∗ slots c)
def Φ₁ (c : Dev nD) : sProp 𝕄 := iprop(slots c ∗ zeros c ∗ semVal (rcell c 3 (by decide)) 0)

def O₀ (c : Dev nD) : CellTallies nD τ sig ℕ := owed c pays

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => X m ρ c
    | ⟨1, _⟩ => W1 m ρ c
    | ⟨2, _⟩ => W2 m ρ c
    | ⟨3, _⟩ => outV m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (V : b.ty.Contents (Elt F)) :
    (owns (Ix := ℕ) (Name := ℕ) (U := UU) (Lvl := ℕ) (c : Thread nD τ) (Memref.whole b) fullShare V : sProp 𝕄)
      = iprop(∃ f : Buf (Elt F) (((c : Dev nD) : Thread nD τ).loc b), ⌜f = V⌝ ∗ (((c : Thread nD τ).loc b) ↦{fullShare} f)) := by
  unfold owns; simp only [Memref.view_whole, View.read_whole, View.set_whole]

abbrev stg (c : Dev nD) (b : Ref sig .tc) (V : b.ty.Contents (Elt F)) : sProp 𝕄 :=
  iprop(∃ f : Buf (Elt F) (((c : Dev nD) : Thread nD τ).loc b), ⌜f = V⌝ ∗ (((c : Thread nD τ).loc b) ↦{fullShare} f))

theorem fetch_0 (t : Fin cfg0.N) : (cfg0.win (0 : Fin 4)).fetch t = true := fetch0_0 t
theorem before_0 (c : Dev nD) (d) : (dats m ρ 0 c).before (0 : Fin 4) t₀ d = X m ρ c := by unfold Dat.before; rw [fetch0_0 t₀]; rfl
theorem before_1 (c : Dev nD) (d) : (dats m ρ 0 c).before (1 : Fin 4) t₀ d = W1 m ρ c := by unfold Dat.before; rw [fetch0_1 t₀]; rfl
theorem before_2 (c : Dev nD) (d) : (dats m ρ 0 c).before (2 : Fin 4) t₀ d = W2 m ρ c := by unfold Dat.before; rw [fetch0_2 t₀]; rfl

def bodyPre (c : Dev nD) : sProp 𝕄 :=
  iprop(Φ₀ m ρ c ∗ (dats m ρ 0 c).owesAt 0 t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def bodyPost (c : Dev nD) : sProp 𝕄 :=
  iprop(Φ₁ c ∗ (dats m ρ 0 c).owesAt 0 t₀.succ ∗ stg c cc0_stg0_0 (X m ρ c) ∗ stg c cc0_stg1_0 (W1 m ρ c) ∗ stg c cc0_stg2_0 (W2 m ρ c)
    ∗ stg c cc0_stg3_0 (outV m ρ c))

theorem body_pre_post (c : Dev nD) : bodyPre m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            cc0_scratch2 cc0_scratch3 cc0_scratch4 cc0_scratch5 cc0_scratch6) (fun _ => bodyPost m ρ c) := by
  unfold bodyPre Φ₀ start Dat.owesAt Pipeline.owesWithin
  rw [show (dats m ρ 0 c).owed t₀.castSucc = owed c pays from rfl]
  simp only [before_0, before_1, before_2]
  iintro ⟨⟨⟨%K, #HE, Hg⟩, Hs⟩, ⟨%W, -, HO⟩, ⟨%d0, %f0, %e0, H0⟩, ⟨%d1, %f1, %e1, H1⟩, ⟨%d2, %f2, %e2, H2⟩, ⟨%d3, %f3, %e3, H3⟩⟩
  subst e0; subst e1; subst e2
  iapply (body_run m ρ K c f3 fun _ => bodyPost m ρ c)
  isplitr; · iexact HE
  isplitl [Hg]; · iexact Hg
  isplitl [Hs]; · iexact Hs
  isplitl [HO]; · unfold owesE; iexists W; iexact HO
  isplitl [H0]; · iexact H0
  isplitl [H1]; · iexact H1
  isplitl [H2]; · iexact H2
  isplitl [H3]; · iexact H3
  iintro ⟨Hs, Hz, Hb, HO, H0, H1, H2, H3⟩
  unfold bodyPost Φ₁ Dat.owesAt Pipeline.owesWithin
  rw [show (dats m ρ 0 c).owed t₀.succ = 0 from rfl]
  unfold owesE
  icases HO with ⟨%W', HO⟩
  isplitl [Hs Hz Hb]
  · isplitl [Hs]; · iexact Hs
    isplitl [Hz]; · iexact Hz
    iexact Hb
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

theorem body_obligation (c : Dev nD) : BodyObligation (dats (F := F) m ρ 0 c) (defs₀ (F := F)) 𝒱₀ 0 Set.univ := fun t => by
  rw [fin_N t]
  rw [bigSep_W0, bigSep_W0]
  simp only [owns_whole_eq]
  exact body_pre_post m ρ c

/-! ## The launch theorem's conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' start env
  iintro ⟨-, #Hlev, Hcr, -, ⟨%K, #HR, HL⟩⟩
  ihave Hc := (show Pipeline.launchCred O₀ c ⊢ credsOf c pays from creds (F := F) pays c) $$ Hcr
  ihave Hg := (ghost_intro (F := F) c) $$ [HL Hc]
  · isplitl [HL] <;> iassumption
  imodintro
  isplitl
  · iexists K
    isplitr
    · isplitr; · iexact HR
      iexact Hlev
    iexact Hg
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iapply (slots_of_scratch (F := F) c); unfold scratch; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ Pipeline.ownSems0
  iintro ⟨Hr, Hz, Hb⟩
  isplitl [Hb]; · iexact Hb
  isplitl [Hz]; · unfold zeros; iexact Hz
  ihave Hr := (scratch_of_slots m c) $$ Hr
  unfold scratch; iexact Hr

theorem waits (c : Dev nD) : (levAts L lv : sProp 𝕄) ⊢ Pipeline.cellsWaits cfgs (dats m ρ) 0 0 c :=
  Pipeline.cellsWaits_intro cfgs (dats m ρ) 0 0 c fun w s t => by
    have hw : lvK (code (.dma ((cfg0.win w).sem s))) 0 ≤ 0 := by revert w s; decide +kernel
    rcases t with ⟨_ | _, ht⟩
    · exact mayWait c _ 0 (by decide) pays 0 hw (by decide)
    · exact mayWait c _ 0 (by decide) [] 0 hw (by decide)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Over any float values: every execution of the eight devices ends, with each device's arrays at the computed contents and every
    semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays after the run hold what they held; -/
theorem finalA_0 (c : Dev nD) : finalA m ρ c (0 : Fin 4) = m ((c : Thread nD τ).loc main_arg0) := (dats (F := F) m ρ 0 c).arrAt_in (0 : Fin 4) rfl _
theorem finalA_1 (c : Dev nD) : finalA m ρ c (1 : Fin 4) = m ((c : Thread nD τ).loc main_arg1) := (dats (F := F) m ρ 0 c).arrAt_in (1 : Fin 4) rfl _
theorem finalA_2 (c : Dev nD) : finalA m ρ c (2 : Fin 4) = m ((c : Thread nD τ).loc main_arg2) := (dats (F := F) m ρ 0 c).arrAt_in (2 : Fin 4) rfl _

end Cert.RingProof

end
-- ==== Proof.Frames.lean ====
/-
What the run says of each program taken alone: it ends, with its arguments as they were and every semaphore counter at zero.
-/
module

public import proofs.«01_k».proof.Defs
public import proofs.«01_k».proof.Proof.Run
public import proofs.«01_k».proof.Proof.Gen.Kernel
public import proofs.«01_k».proof.Proof.Gen.ReferenceIdeal.Run

@[expose] public section

set_option maxRecDepth 16384

noncomputable section

namespace Cert.RingProof

open Idealize.ShloMosaic Idealize.SL.Sem

/-! ## The two programs have one text -/

section
attribute [local instance] Cert.Kernel.Gen.facts Cert.KernelIdeal.Gen.facts
variable {F : FTy → Type} [FloatOps F]

theorem bodies_same : Cert.Kernel.defs₀ (F := F) = Cert.KernelIdeal.defs₀ (F := F) := by
  refine congrArg (Defs.onTc (τ := Cert.Kernel.τ)) ?_
  funext x y
  have hx : x = (0 : Fin 1) := Fin.ext (by have := (show Fin 1 from x).isLt; omega)
  subst hx
  rfl
theorem defs_same : Cert.Kernel.defs (F := F) = Cert.KernelIdeal.defs (F := F) :=
  congrArg (Pipeline.defs Cert.Kernel.pcfgs) bodies_same
end

/-! ## The frames -/

/-- The program as printed: the run over the machine's floats. -/
theorem frame_kernel : Cert.quiescent_Kernel (hKernel := Cert.Kernel.Gen.facts) := by
  intro m ρ _
  rw [@defs_same Bits _]
  exact (θ_run Cert.KernelIdeal.defs _ _).mono
    (fun _ h => ⟨fun c => ⟨(h.1 c (0 : Fin 4)).trans (finalA_0 m ρ c), (h.1 c (1 : Fin 4)).trans (finalA_1 m ρ c),
      (h.1 c (2 : Fin 4)).trans (finalA_2 m ρ c)⟩, h.2⟩)
    (run_main (F := Bits) m ρ)

/-- The program over extended reals. -/
theorem frame_ideal : Cert.quiescent_KernelIdeal (hKernelIdeal := Cert.KernelIdeal.Gen.facts) := fun m ρ _ =>
  (θ_run Cert.KernelIdeal.defs _ _).mono
    (fun _ h => ⟨fun c => ⟨(h.1 c (0 : Fin 4)).trans (finalA_0 m ρ c), (h.1 c (1 : Fin 4)).trans (finalA_1 m ρ c),
      (h.1 c (2 : Fin 4)).trans (finalA_2 m ρ c)⟩, h.2⟩)
    (run_main (F := Ideal) m ρ)

/-- The reference: a line of host operations, with no semaphore at all. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.RingProof

end
-- ==== Proof.Result.lean ====
/-
The arrays the devices read and write, as whole arrays: each window is its array, so what the body reads is what the array holds, and
the result's array ends at what the body leaves.
-/
module

public import proofs.«01_k».proof.Proof.Run

@[expose] public section

set_option maxRecDepth 65536

noncomputable section

namespace Cert.RingProof

open Cert.KernelIdeal Cert.KernelIdeal.Gen
open Idealize.ShloMosaic Idealize.ShloMosaic.TcCoe
open Idealize.SL Idealize.SL.Sem
open Idealize.ShloMosaic.Pipeline

variable {F : FTy → Type} [FloatOps F]
variable (m : (ℓ : Loc nD τ sig) → Buf (Elt F) ℓ) (ρ : Dev nD → PrngReg)

/-- A device's block of the input is its first argument; -/
theorem X_eq (c : Dev nD) : X m ρ c = m ((c : Thread nD τ).loc main_arg0) := by
  have hz : (fun a => win0_0.index (0 : Fin 1) a * main_arg0.ty.shape.size a) = fun _ => 0 := funext fun a => by fin_cases a <;> rfl
  exact Memref.read_access_unit_zero (Elt F) main_arg0 hz (fun a => by rw [congrFun hz a]; simp) _

/-- its block of the first weights is the second; -/
theorem W1_eq (c : Dev nD) : W1 m ρ c = m ((c : Thread nD τ).loc main_arg1) := by
  have hz : (fun a => win0_1.index (0 : Fin 1) a * main_arg1.ty.shape.size a) = fun _ => 0 := funext fun a => by fin_cases a <;> rfl
  exact Memref.read_access_unit_zero (Elt F) main_arg1 hz (fun a => by rw [congrFun hz a]; simp) _

/-- and its block of the second weights is the third. -/
theorem W2_eq (c : Dev nD) : W2 m ρ c = m ((c : Thread nD τ).loc main_arg2) := by
  have hz : (fun a => win0_2.index (0 : Fin 1) a * main_arg2.ty.shape.size a) = fun _ => 0 := funext fun a => by fin_cases a <;> rfl
  exact Memref.read_access_unit_zero (Elt F) main_arg2 hz (fun a => by rw [congrFun hz a]; simp) _

/-- Device `c`'s block of the result, as contents of its result array. -/
abbrev outA (c : Dev nD) : Buf (Elt F) ((c : Thread nD τ).loc main_v1) := outV m ρ c

/-- The one write-back writes the block. -/
theorem written_block (c : Dev nD) (t : Fin cfg0.N) :
    (dats m ρ 0 c).flushed (3 : Fin 4) t = ((cfg0.win 3).blk t).view.read (Elt F) (outA m ρ c) := by
  obtain rfl := fin_N t
  have hz : (fun a => win0_3.index t₀ a * main_v1.ty.shape.size a) = fun _ => 0 := funext fun a => by fin_cases a <;> rfl
  exact (Memref.read_access_unit_zero (Elt F) main_v1 hz (fun a => by rw [congrFun hz a]; simp) (outA m ρ c)).symm

/-- So the result's array ends at it. -/
theorem finalA_3 (c : Dev nD) : finalA m ρ c (3 : Fin 4) = outA m ρ c :=
  (dats m ρ 0 c).arrAt_eq_of_cover (3 : Fin 4) (outA m ρ c) (fun t _ => written_block m ρ c t) fun i =>
    ⟨t₀, flush0_3 t₀, by
      show i ∈ ((View.whole main_v1).slice (win0_3.rect t₀)).set
      rw [View.set_slice_whole, Rect.mem_set_unit]
      intro a
      have h0 : (i 0 : Nat) < 1024 := (i 0).isLt
      have h1 : (i 1 : Nat) < 1024 := (i 1).isLt
      match a with
      | ⟨0, _⟩ => exact ⟨by show 0 * 1024 ≤ (i 0 : Nat); omega, by show (i 0 : Nat) < 0 * 1024 + 1024; omega⟩
      | ⟨1, _⟩ => exact ⟨by show 0 * 1024 ≤ (i 1 : Nat); omega, by show (i 1 : Nat) < 0 * 1024 + 1024; omega⟩⟩

end Cert.RingProof

end
-- ==== Proof.Algebra.lean ====
/-
What the kernel's blocks and the reference are over extended reals: sums of products.

A device's partial result is, at row `i` and column `d`, the sum over its 4096 hidden units `f` of `silu (x · W1)[i, f] * W2[f, d]`;
the reference is the same sum over all 32768 hidden units.
-/
module

public import proofs.«01_k».proof.Proof.Slots
public import proofs.«01_k».proof.Proof.Gen.ReferenceIdeal
public import Idealize.ShloMosaic.PureOps.Ideal
public import Idealize.ShloMosaic.Lib.MatmulPlain
public import Idealize.ShloMosaic.Lib.StackMember
public import Idealize.ShloMosaic.Lib.ValueIdx
public import Mathlib.Algebra.BigOperators.Fin

@[expose] public section

noncomputable section

namespace Cert.RingProof

open Cert.KernelIdeal Cert.KernelIdeal.Gen
open Idealize.ShloMosaic Idealize.ShloMosaic.ValueIdx
open scoped BigOperators

/-- The activation: a hidden value times its logistic. -/
def silu (h : EReal) : EReal := h * Ideal.logistic h

/-- It is the quotient that the reference writes, at the infinities too. -/
theorem silu_eq (h : EReal) : Ideal.div h (1 + Ideal.exp (-h)) = silu h := by
  have hp : (0 : EReal) ≤ Ideal.exp (-h) := by
    induction h using EReal.rec with
    | bot => simp
    | coe r => rw [← EReal.coe_neg, Ideal.exp_coe]; exact_mod_cast (Real.exp_pos _).le
    | top => simp
  have hne : (1 : EReal) + Ideal.exp (-h) ≠ 0 := by
    have h1 : (0 : EReal) < 1 := zero_lt_one
    have h2 : (1 : EReal) ≤ 1 + Ideal.exp (-h) := le_add_of_nonneg_right hp
    exact (lt_of_lt_of_le h1 h2).ne'
  unfold silu Ideal.logistic Ideal.div
  rw [if_neg hne, if_neg hne, one_mul]

/-- The word of one, read as an extended real. -/
theorem one_word : (FloatOps.ofBits (F := Ideal) .f32 0x3F800000#32) = (1 : EReal) := by
  rw [Ideal.ofBits_def]
  simp [Ideal.ofBits, Ideal.ieee, -EReal.coe_mul]
  norm_num

/-- A kernel's product onto zeros. -/
theorem prod_apply {M K N : ℕ} (l : FVec Ideal ⟨2, ![M, K]⟩ .bf16) (r : FVec Ideal ⟨2, ![K, N]⟩ .bf16) (a : Fin M) (b : Fin N) :
    FloatOps.matmul (DotDims.plain M K N) none l r (constant (F := Ideal) ⟨2, ![M, N]⟩ .f32 0x00000000#32) (ix2 a b)
      = ∑ k : Fin K, l (ix2 a k) * r (ix2 k b) := by
  rw [Ideal.matmul_plain_apply]
  have h0 : constant (F := Ideal) ⟨2, ![M, N]⟩ .f32 0x00000000#32 (ix2 a b) = (0 : EReal) := by
    simp [constant, Ideal.ofBits, Ideal.ieee]
  rw [h0]
  exact zero_add _

/-- A tile of the kernel at row `a`, column `d`. -/
theorem pay_apply (t : Vec Ideal S128x1024 .bf16) (W1 : Vec Ideal S1024x4096 .bf16) (W2 : Vec Ideal S4096x1024 .bf16)
    (a d : ℕ) (ha : a < 128) (hd : d < 1024) :
    k0_pay3 (F := Ideal) t W1 W2 (uij a d ha hd)
      = ∑ f : Fin 4096, silu (∑ k : Fin 1024, t (ix2 ⟨a, ha⟩ k) * W1 (ix2 k f)) * W2 (ix2 f ⟨d, hd⟩) := by
  unfold k0_pay3
  rw [shapeCast_self, shapeCast_self, shapeCast_self]
  refine (shapeCast_addUnit_apply (n := 2) ![128, 1024] _ _ _).trans ?_
  have hj : (fun b : Fin 2 => uij a d ha hd b.succ) = (ix2 (⟨a, ha⟩ : Fin 128) (⟨d, hd⟩ : Fin 1024) : S128x1024.Idx) := by
    funext b
    match b with
    | ⟨0, _⟩ => rfl
    | ⟨1, _⟩ => rfl
  refine (congrArg _ hj).trans ?_
  refine (prod_apply (M := 128) (K := 4096) (N := 1024) _ W2 ⟨a, ha⟩ ⟨d, hd⟩).trans ?_
  refine Finset.sum_congr rfl fun f _ => ?_
  exact congrArg (· * _) (congrArg silu (prod_apply (M := 128) (K := 1024) (N := 4096) t W1 ⟨a, ha⟩ f))

/-- Hidden unit `f`'s share of the result at row `i`, column `d`. -/
def term {M N : ℕ} (x : FVec Ideal ⟨2, ![M, 1024]⟩ .bf16) (w1 : FVec Ideal ⟨2, ![1024, N]⟩ .bf16) (w2 : FVec Ideal ⟨2, ![N, 1024]⟩ .bf16)
    (i : Fin M) (d : Fin 1024) (f : Fin N) : EReal :=
  silu (∑ k : Fin 1024, x (ix2 i k) * w1 (ix2 k f)) * w2 (ix2 f d)

/-- A device's partial result at row `i`, column `d`: the sum over its hidden units. -/
theorem part_apply (V : Blk Ideal) (W1 : Vec Ideal S1024x4096 .bf16) (W2 : Vec Ideal S4096x1024 .bf16) (i d : Fin 1024) :
    part (F := Ideal) V W1 W2 (ix2 i d) = ∑ f : Fin 4096, term (M := 1024) (N := 4096) V W1 W2 i d f := by
  unfold part
  refine (pay_apply _ W1 W2 (i.val % 128) d.val (Nat.mod_lt _ (by decide)) d.isLt).trans ?_
  refine Finset.sum_congr rfl fun f _ => ?_
  unfold term
  refine congrArg (fun h : EReal => silu h * _) (Finset.sum_congr rfl fun k _ => congrArg (· * _) ?_)
  unfold tileIn
  refine congrArg V ?_
  funext b
  match b with
  | ⟨0, _⟩ => exact Fin.ext (Nat.div_add_mod i.val 128)
  | ⟨1, _⟩ => rfl

/-- The reference's operations at any number of rows and hidden units. -/
def refG (M N : ℕ) (hb : ReferenceIdeal.S_.BroadcastsInDim ⟨2, ![M, N]⟩ ![]) (hw : FTy.bf16.bits < FTy.f32.bits)
    (x : FVec Ideal ⟨2, ![M, 1024]⟩ .bf16) (w1 : FVec Ideal ⟨2, ![1024, N]⟩ .bf16) (w2 : FVec Ideal ⟨2, ![N, 1024]⟩ .bf16) :
    FVec Ideal ⟨2, ![M, 1024]⟩ .f32 :=
  Host.dotGeneral (DotDims.plain M N 1024) none
    (Host.divf (Host.dotGeneral (DotDims.plain M 1024 N) none (extf .f32 x hw) (extf .f32 w1 hw))
      (addf (broadcastInDim ⟨2, ![M, N]⟩ ![] hb (constant ReferenceIdeal.S_ .f32 0x3F800000#32))
        (Host.exp (Host.negf (Host.dotGeneral (DotDims.plain M 1024 N) none (extf .f32 x hw) (extf .f32 w1 hw))))))
    (extf .f32 w2 hw)

/-- The reference's activation at one element. -/
theorem act_apply {S : Shape} (hb : ReferenceIdeal.S_.BroadcastsInDim S ![]) (H : FVec Ideal S .f32) (j : S.Idx) :
    Host.divf H (addf (broadcastInDim S ![] hb (constant (F := Ideal) ReferenceIdeal.S_ .f32 0x3F800000#32)) (Host.exp (Host.negf H))) j
      = silu (H j) := by
  have h1 : Host.divf H (addf (broadcastInDim S ![] hb (constant (F := Ideal) ReferenceIdeal.S_ .f32 0x3F800000#32)) (Host.exp (Host.negf H))) j
      = Ideal.div (H j) ((FloatOps.ofBits (F := Ideal) .f32 0x3F800000#32 : EReal) + Ideal.exp (-(H j))) := rfl
  rw [h1, one_word, silu_eq]

/-- The reference at row `i`, column `d`: the sum over all hidden units. -/
theorem refG_apply (M N : ℕ) (hb : ReferenceIdeal.S_.BroadcastsInDim ⟨2, ![M, N]⟩ ![]) (hw : FTy.bf16.bits < FTy.f32.bits)
    (x : FVec Ideal ⟨2, ![M, 1024]⟩ .bf16) (w1 : FVec Ideal ⟨2, ![1024, N]⟩ .bf16) (w2 : FVec Ideal ⟨2, ![N, 1024]⟩ .bf16)
    (i : Fin M) (d : Fin 1024) :
    refG M N hb hw x w1 w2 (ix2 i d) = ∑ f : Fin N, term x w1 w2 i d f := by
  unfold refG
  rw [StackMember.dotGeneral_plain_apply]
  refine Finset.sum_congr rfl fun f _ => ?_
  rw [act_apply, StackMember.dotGeneral_plain_apply]
  rfl

/-- A sum over `p * q` positions, block by block. -/
theorem sum_blocks (p q n : ℕ) (hn : p * q = n) (g : Fin n → EReal) (hb : ∀ (e : Fin p) (f : Fin q), e.val * q + f.val < n) :
    ∑ f : Fin n, g f = ∑ e : Fin p, ∑ f : Fin q, g ⟨e.val * q + f.val, hb e f⟩ := by
  subst hn
  rw [← Fintype.sum_prod_type']
  refine (Fintype.sum_equiv (finProdFinEquiv (m := p) (n := q)) _ _ fun y => congrArg g (Fin.ext ?_)).symm
  refine Eq.trans ?_ (finProdFinEquiv_apply_val y).symm
  show y.1.val * q + y.2.val = y.2.val + q * y.1.val
  rw [Nat.mul_comm, Nat.add_comm]

/-- A sum over the 32768 hidden units, device by device. -/
theorem sum_split (g : Fin 32768 → EReal) :
    ∑ f : Fin 32768, g f = ∑ e : Fin 8, ∑ f : Fin 4096, g ⟨e.val * 4096 + f.val, by omega⟩ :=
  sum_blocks 8 4096 32768 rfl g _

end Cert.RingProof

end
-- ==== Proof.Value.lean ====
/-
The value: each device's block of the kernel's result is its block of the reference's.

Device `c` ends with the sum, around the ring, of what every device computed of `c`'s block of the input with its own hidden units;
the reference sums over all hidden units at once.
-/
module

public import proofs.«01_k».proof.Defs
public import proofs.«01_k».proof.Proof.Result
public import proofs.«01_k».proof.Proof.Algebra
public import proofs.«01_k».proof.Proof.Gen.ReferenceIdeal.Run
public import Idealize.ShloMosaic.Lib.Layout

@[expose] public section

noncomputable section

namespace Cert.RingProof

open Cert.KernelIdeal Cert.KernelIdeal.Gen
open Idealize.ShloMosaic Idealize.ShloMosaic.ValueIdx Idealize.ShloMosaic.TcCoe
open Idealize.SL Idealize.SL.Sem
open scoped BigOperators

/-- An index of a device's block is its row and its column. -/
theorem idx_eq (j : S1024x1024.Idx) : j = (ix2 (j 0) (j 1) : S1024x1024.Idx) := by
  funext a
  match a with
  | ⟨0, _⟩ => rfl
  | ⟨1, _⟩ => rfl

/-! ## The sum around the ring -/

/-- Going around the ring from device `c`, each device adds its share for `c`: together, every device's share. -/
theorem ring_sum (P : Dev nD → Dev nD → EReal) (c : Dev nD) :
    P (prv^[0] c) c + (P (prv^[7] (prv c)) (prv c) + (P (prv^[6] (prv (prv c))) (prv (prv c))
      + (P (prv^[5] (prv (prv (prv c)))) (prv (prv (prv c)))
      + (P (prv^[4] (prv (prv (prv (prv c))))) (prv (prv (prv (prv c))))
      + (P (prv^[3] (prv (prv (prv (prv (prv c)))))) (prv (prv (prv (prv (prv c)))))
      + (P (prv^[2] (prv (prv (prv (prv (prv (prv c))))))) (prv (prv (prv (prv (prv (prv c))))))
      + P (prv^[1] (prv (prv (prv (prv (prv (prv (prv c)))))))) (prv (prv (prv (prv (prv (prv (prv c)))))))))))))
      = ∑ e : Fin 8, P c e := by
  rw [show prv^[0] c = c from rfl,
    show prv^[7] (prv c) = c by revert c; decide,
    show prv^[6] (prv (prv c)) = c by revert c; decide,
    show prv^[5] (prv (prv (prv c))) = c by revert c; decide,
    show prv^[4] (prv (prv (prv (prv c)))) = c by revert c; decide,
    show prv^[3] (prv (prv (prv (prv (prv c))))) = c by revert c; decide,
    show prv^[2] (prv (prv (prv (prv (prv (prv c)))))) = c by revert c; decide,
    show prv^[1] (prv (prv (prv (prv (prv (prv (prv c))))))) = c by revert c; decide]
  generalize P c = p
  rw [Fin.sum_univ_eight]
  revert c
  have h : ∀ c : Fin 8, p c + (p (prv c) + (p (prv (prv c)) + (p (prv (prv (prv c))) + (p (prv (prv (prv (prv c))))
      + (p (prv (prv (prv (prv (prv c))))) + (p (prv (prv (prv (prv (prv (prv c))))))
      + p (prv (prv (prv (prv (prv (prv (prv c)))))))))))))
      = p 0 + p 1 + p 2 + p 3 + p 4 + p 5 + p 6 + p 7 := by
    intro c
    match c with
    | 0 => show p 0 + (p 7 + (p 6 + (p 5 + (p 4 + (p 3 + (p 2 + p 1)))))) = _; ac_rfl
    | 1 => show p 1 + (p 0 + (p 7 + (p 6 + (p 5 + (p 4 + (p 3 + p 2)))))) = _; ac_rfl
    | 2 => show p 2 + (p 1 + (p 0 + (p 7 + (p 6 + (p 5 + (p 4 + p 3)))))) = _; ac_rfl
    | 3 => show p 3 + (p 2 + (p 1 + (p 0 + (p 7 + (p 6 + (p 5 + p 4)))))) = _; ac_rfl
    | 4 => show p 4 + (p 3 + (p 2 + (p 1 + (p 0 + (p 7 + (p 6 + p 5)))))) = _; ac_rfl
    | 5 => show p 5 + (p 4 + (p 3 + (p 2 + (p 1 + (p 0 + (p 7 + p 6)))))) = _; ac_rfl
    | 6 => show p 6 + (p 5 + (p 4 + (p 3 + (p 2 + (p 1 + (p 0 + p 7)))))) = _; ac_rfl
    | 7 => show p 7 + (p 6 + (p 5 + (p 4 + (p 3 + (p 2 + (p 1 + p 0)))))) = _; ac_rfl
  exact h

variable (m : (ℓ : Loc nD τ sig) → Buf (Elt Ideal) ℓ) (ρ : Dev nD → PrngReg)

/-- What device `e`'s weights give for device `b`'s block of the input, at row `i` and column `d`. -/
def share (i d : Fin 1024) (b e : Dev nD) : EReal :=
  ∑ f : Fin 4096, term (M := 1024) (N := 4096) (m ((b : Thread nD τ).loc main_arg0)) (m ((e : Thread nD τ).loc main_arg1))
    (m ((e : Thread nD τ).loc main_arg2)) i d f

theorem partV_apply (i d : Fin 1024) (e : Dev nD) (s : ℕ) :
    partV m ρ e s (ix2 i d) = share m i d (prv^[s] e) e := by
  unfold partV
  rw [X_eq, W1_eq, W2_eq, part_apply]
  rfl

/-- A step of the running sum, at an index. -/
theorem accV_zero (i d : Fin 1024) (e : Dev nD) : accV m ρ 0 e (ix2 i d) = share m i d (prv^[1] e) e := partV_apply m ρ i d e 1

theorem accV_succ (i d : Fin 1024) (t : ℕ) (e : Dev nD) :
    (accV m ρ (t + 1) e (ix2 i d) : EReal) = share m i d (prv^[t + 2] e) e + (accV m ρ t (prv e) (ix2 i d) : EReal) := by
  rw [← partV_apply m ρ i d e (t + 2)]
  rfl

theorem outV_step (i d : Fin 1024) (c : Dev nD) :
    (outV m ρ c (ix2 i d) : EReal) = share m i d (prv^[0] c) c + (accV m ρ 6 (prv c) (ix2 i d) : EReal) := by
  rw [← partV_apply m ρ i d c 0]
  rfl

/-- So device `c` ends with every device's share for its block. -/
theorem outV_apply (i d : Fin 1024) (c : Dev nD) : (outV m ρ c (ix2 i d) : EReal) = ∑ e : Fin 8, share m i d c e := by
  rw [outV_step, accV_succ, accV_succ, accV_succ, accV_succ, accV_succ, accV_succ, accV_zero]
  exact ring_sum (share m i d) c

/-! ## The reference's blocks -/

/-- A block of rows of an array, at an index; -/
theorem rows_apply {α : Type} {B R C k : ℕ} (h : Layout.Tiles ⟨2, ![B, C]⟩ ⟨2, ![R, C]⟩ 0 k) (c : Fin k)
    (v : (⟨2, ![R, C]⟩ : Shape).Idx → α) (r : Fin B) (l : Fin C) (hr : c.val * B + r.val < R) :
    Layout.block ⟨2, ![B, C]⟩ ⟨2, ![R, C]⟩ 0 k c v h (ix2 r l) = v (ix2 ⟨c.val * B + r.val, hr⟩ l) := by
  rw [Layout.block_apply]
  refine congrArg v (funext fun a => ?_)
  match a with
  | ⟨0, _⟩ => rfl
  | ⟨1, _⟩ => rfl

/-- and a block of columns. -/
theorem cols_apply {α : Type} {B R C k : ℕ} (h : Layout.Tiles ⟨2, ![R, B]⟩ ⟨2, ![R, C]⟩ 1 k) (c : Fin k)
    (v : (⟨2, ![R, C]⟩ : Shape).Idx → α) (r : Fin R) (l : Fin B) (hl : c.val * B + l.val < C) :
    Layout.block ⟨2, ![R, B]⟩ ⟨2, ![R, C]⟩ 1 k c v h (ix2 r l) = v (ix2 r ⟨c.val * B + l.val, hl⟩) := by
  rw [Layout.block_apply]
  refine congrArg v (funext fun a => ?_)
  match a with
  | ⟨0, _⟩ => rfl
  | ⟨1, _⟩ => rfl

/-- The blocks' summand is the whole arrays'. -/
theorem term_block {B H M N k : ℕ} (hx : Layout.Tiles ⟨2, ![B, 1024]⟩ ⟨2, ![M, 1024]⟩ 0 k)
    (h1 : Layout.Tiles ⟨2, ![1024, H]⟩ ⟨2, ![1024, N]⟩ 1 k) (h2 : Layout.Tiles ⟨2, ![H, 1024]⟩ ⟨2, ![N, 1024]⟩ 0 k)
    (x : FVec Ideal ⟨2, ![M, 1024]⟩ .bf16) (w1 : FVec Ideal ⟨2, ![1024, N]⟩ .bf16) (w2 : FVec Ideal ⟨2, ![N, 1024]⟩ .bf16)
    (b e : Fin k) (i : Fin B) (d : Fin 1024) (f : Fin H) (hi : b.val * B + i.val < M) (hf : e.val * H + f.val < N) :
    term (Layout.block ⟨2, ![B, 1024]⟩ ⟨2, ![M, 1024]⟩ 0 k b x hx) (Layout.block ⟨2, ![1024, H]⟩ ⟨2, ![1024, N]⟩ 1 k e w1 h1)
        (Layout.block ⟨2, ![H, 1024]⟩ ⟨2, ![N, 1024]⟩ 0 k e w2 h2) i d f
      = term x w1 w2 ⟨b.val * B + i.val, hi⟩ d ⟨e.val * H + f.val, hf⟩ := by
  unfold term
  rw [rows_apply h2 e w2 f d hf]
  refine congrArg (fun s : EReal => silu s * _) (Finset.sum_congr rfl fun q _ => ?_)
  rw [rows_apply hx b x i q hi, cols_apply h1 e w1 q f hf]

/-- The shares of all devices, summed, are the reference's sum at the device's row. -/
theorem shares_eq (x : FVec Ideal ⟨2, ![8192, 1024]⟩ .bf16) (w1 : FVec Ideal ⟨2, ![1024, 32768]⟩ .bf16)
    (w2 : FVec Ideal ⟨2, ![32768, 1024]⟩ .bf16)
    (hx : Layout.Tiles ⟨2, ![1024, 1024]⟩ ⟨2, ![8192, 1024]⟩ 0 8) (h1 : Layout.Tiles ⟨2, ![1024, 4096]⟩ ⟨2, ![1024, 32768]⟩ 1 8)
    (h2 : Layout.Tiles ⟨2, ![4096, 1024]⟩ ⟨2, ![32768, 1024]⟩ 0 8)
    (m0 : ∀ c : Dev nD, m ((c : Thread nD τ).loc main_arg0) = Layout.block ⟨2, ![1024, 1024]⟩ ⟨2, ![8192, 1024]⟩ 0 8 c x hx)
    (m1 : ∀ c : Dev nD, m ((c : Thread nD τ).loc main_arg1) = Layout.block ⟨2, ![1024, 4096]⟩ ⟨2, ![1024, 32768]⟩ 1 8 c w1 h1)
    (m2 : ∀ c : Dev nD, m ((c : Thread nD τ).loc main_arg2) = Layout.block ⟨2, ![4096, 1024]⟩ ⟨2, ![32768, 1024]⟩ 0 8 c w2 h2)
    (i d : Fin 1024) (c : Fin 8) (hi : c.val * 1024 + i.val < 8192) :
    ∑ e : Fin 8, share m i d c e = ∑ f : Fin 32768, term x w1 w2 ⟨c.val * 1024 + i.val, hi⟩ d f := by
  rw [sum_split]
  refine Finset.sum_congr rfl fun e _ => Finset.sum_congr rfl fun f _ => ?_
  rw [m0 c, m1 e, m2 e]
  exact term_block hx h1 h2 x w1 w2 c e i d f hi _

/-- So device `c`'s block of the result is its block of the reference's array. -/
theorem out_block (x : FVec Ideal ⟨2, ![8192, 1024]⟩ .bf16) (w1 : FVec Ideal ⟨2, ![1024, 32768]⟩ .bf16)
    (w2 : FVec Ideal ⟨2, ![32768, 1024]⟩ .bf16)
    (hx : Layout.Tiles ⟨2, ![1024, 1024]⟩ ⟨2, ![8192, 1024]⟩ 0 8) (h1 : Layout.Tiles ⟨2, ![1024, 4096]⟩ ⟨2, ![1024, 32768]⟩ 1 8)
    (h2 : Layout.Tiles ⟨2, ![4096, 1024]⟩ ⟨2, ![32768, 1024]⟩ 0 8)
    (m0 : ∀ c : Dev nD, m ((c : Thread nD τ).loc main_arg0) = Layout.block ⟨2, ![1024, 1024]⟩ ⟨2, ![8192, 1024]⟩ 0 8 c x hx)
    (m1 : ∀ c : Dev nD, m ((c : Thread nD τ).loc main_arg1) = Layout.block ⟨2, ![1024, 4096]⟩ ⟨2, ![1024, 32768]⟩ 1 8 c w1 h1)
    (m2 : ∀ c : Dev nD, m ((c : Thread nD τ).loc main_arg2) = Layout.block ⟨2, ![4096, 1024]⟩ ⟨2, ![32768, 1024]⟩ 0 8 c w2 h2)
    (hb : ReferenceIdeal.S_.BroadcastsInDim ⟨2, ![8192, 32768]⟩ ![]) (hw : FTy.bf16.bits < FTy.f32.bits)
    (y : FVec Ideal ⟨2, ![8192, 1024]⟩ .f32) (hy : y = refG 8192 32768 hb hw x w1 w2) (c : Fin 8) :
    outV m ρ c = Layout.block ⟨2, ![1024, 1024]⟩ ⟨2, ![8192, 1024]⟩ 0 8 c y hx := by
  funext j
  have hi : c.val * 1024 + (j 0).val < 8192 := by
    have h0 : (j 0).val < 1024 := (j 0).isLt
    have := c.isLt
    omega
  have hl : outV m ρ c (ix2 (j 0) (j 1)) = ∑ e : Fin 8, share m (j 0) (j 1) c e := outV_apply m ρ (j 0) (j 1) c
  have hr := rows_apply hx c y (j 0) (j 1) hi
  have hg := refG_apply 8192 32768 hb hw x w1 w2 ⟨c.val * 1024 + (j 0).val, hi⟩ (j 1)
  have hs := shares_eq m x w1 w2 hx h1 h2 m0 m1 m2 (j 0) (j 1) c hi
  rw [idx_eq j]
  rw [hy] at hr
  rw [hy, hl, hs]
  exact (hr.trans hg).symm

/-! ## The claim -/

theorem dims_up [Cert.ReferenceIdeal.Facts] : ReferenceIdeal.dot_S8192x1024_S1024x32768_S8192x32768_1_0_0_1_n_n = DotDims.plain 8192 1024 32768 := rfl
theorem dims_down [Cert.ReferenceIdeal.Facts] : ReferenceIdeal.dot_S8192x32768_S32768x1024_S8192x1024_1_0_0_1_n_n = DotDims.plain 8192 32768 1024 := rfl

/-- The kernel's result on each device is that device's block of the reference's. -/
theorem algebraic : Cert.algebraic_KernelIdeal_ReferenceIdeal (hKernelIdeal := Cert.KernelIdeal.Gen.facts)
    (hReferenceIdeal := Cert.ReferenceIdeal.Gen.facts) := by
  intro m ρ m' ρ' _ hag
  have hout := fun c : Dev nD => out_block m ρ _ _ _ _ _ _ (fun c => (hag c).1) (fun c => (hag c).2.1) (fun c => (hag c).2.2)
    Cert.ReferenceIdeal.Gen.facts.bcast_S_S8192x32768 Cert.ReferenceIdeal.Gen.facts.bitsLt_bf16_f32 _ rfl c
  refine ⟨refG 8192 32768 Cert.ReferenceIdeal.Gen.facts.bcast_S_S8192x32768 Cert.ReferenceIdeal.Gen.facts.bitsLt_bf16_f32
    (m' (((0 : Dev Cert.ReferenceIdeal.nD) : Thread Cert.ReferenceIdeal.nD Cert.ReferenceIdeal.τ).loc Cert.ReferenceIdeal.main_arg0))
    (m' (((0 : Dev Cert.ReferenceIdeal.nD) : Thread Cert.ReferenceIdeal.nD Cert.ReferenceIdeal.τ).loc Cert.ReferenceIdeal.main_arg1))
    (m' (((0 : Dev Cert.ReferenceIdeal.nD) : Thread Cert.ReferenceIdeal.nD Cert.ReferenceIdeal.τ).loc Cert.ReferenceIdeal.main_arg2)), ?_, ?_⟩
  · exact (θ_run defs _ _).mono (fun _ h c => ⟨((h.1 c (3 : Fin 4)).trans (finalA_3 m ρ c)).trans (hout c),
      (h.1 c (0 : Fin 4)).trans (finalA_0 m ρ c), (h.1 c (1 : Fin 4)).trans (finalA_1 m ρ c),
      (h.1 c (2 : Fin 4)).trans (finalA_2 m ρ c)⟩) (run_main (F := Ideal) m ρ)
  · refine (θ_run Cert.ReferenceIdeal.defs _ _).mono (fun _ h => ⟨(h 0).1.trans ?_, (h 0).2⟩) (Cert.ReferenceIdeal.Value.run (F := Ideal) m' ρ')
    rw [dims_up, dims_down]
    exact rfl

end Cert.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.RingProof.frame_kernel, Cert.RingProof.frame_ideal, Cert.RingProof.frame_reference, trivial, Cert.RingProof.algebraic⟩

end Cert.Proof

end
